-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 512, 1024]⟩ ⟨3, ![1, 2048, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 1024]⟩ ⟨3, ![1, 2048, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v55) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x512x1024 : Shape := ⟨3, ![1, 512, 1024]⟩
abbrev S1024x1024 : Shape := ⟨2, ![1024, 1024]⟩
abbrev S1x2048x32x128 : Shape := ⟨4, ![1, 2048, 32, 128]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x32x128 : S_.BroadcastsInDim S1x2048x32x128 (![] : Fin 0 → Fin S1x2048x32x128.rank)
  reducesTo_S1x2048x32x128_S_d0_1_2_3 : S1x2048x32x128.ReducesTo [0, 1, 2, 3] S_

variable [Facts]

def fn {F : FTy → Type} [FloatOps F] (main_arg0 : FVec F S1x512x1024 .f32) (main_arg1 : FVec F S1024x1024 .f32) (main_arg2 : FVec F S1x2048x32x128 .f32) (main_arg3 : FVec F S1x2048x32x128 .f32) (main_arg4 : FVec F S1024x1024 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x32x128 .f32 := Host.absf main_arg2
  let main_cst_2 : FVec F S_ .f32 := constant S_ .f32 0x7F800000#32
  let main_v10 : FVec F S1x2048x32x128 .f32 := broadcastInDim S1x2048x32x128 ![] bcast_S_S1x2048x32x128 main_cst_2
  let main_v11 : IVec S1x2048x32x128 1 := cmpf .olt main_v9 main_v10
  let main_c_3 : IVec S_ 1 := constantI S_ 1 1#1
  let main_v12 : IVec S_ 1 := (fun x v => Host.reduce IntOp.andi x v reducesTo_S1x2048x32x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x2048x32x128 : S_.BroadcastsInDim S1x2048x32x128 (![] : Fin 0 → Fin S1x2048x32x128.rank)
  reducesTo_S1x2048x32x128_S_d0_1_2_3 : S1x2048x32x128.ReducesTo [0, 1, 2, 3] S_

variable [Facts]

def fn {F : FTy → Type} [FloatOps F] (main_arg0 : FVec F S1x2048x1024 .f32) (main_arg1 : FVec F S1024x4096 .f32) (main_arg2 : FVec F S1x2048x32x128 .f32) (main_arg3 : FVec F S1x2048x32x128 .f32) (main_arg4 : FVec F S4096x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x2048x32x128 .f32 := Host.absf main_arg2
  let main_cst_2 : FVec F S_ .f32 := constant S_ .f32 0x7F800000#32
  let main_v10 : FVec F S1x2048x32x128 .f32 := broadcastInDim S1x2048x32x128 ![] bcast_S_S1x2048x32x128 main_cst_2
  let main_v11 : IVec S1x2048x32x128 1 := cmpf .olt main_v9 main_v10
  let main_c_3 : IVec S_ 1 := constantI S_ 1 1#1
  let main_v12 : IVec S_ 1 := (fun x v => Host.reduce IntOp.andi x v reducesTo_S1x2048x32x128_S_d0_1_2_3 h_S_) main_v11 main_c_3
  let main_v13 : IVec S_ 1 := andi main_v8 main_v12
  main_v13
-- ==== Kernel.lean ====
abbrev S1x512x1024 : Shape := ⟨3, ![1, 512, 1024]⟩
abbrev S1024x1024 : Shape := ⟨2, ![1024, 1024]⟩
abbrev S1x2048x32x128 : Shape := ⟨4, ![1, 2048, 32, 128]⟩
abbrev S512x1024 : Shape := ⟨2, ![512, 1024]⟩
abbrev S3x512x1024 : Shape := ⟨3, ![3, 512, 1024]⟩
abbrev S2x2048x128 : Shape := ⟨3, ![2, 2048, 128]⟩
abbrev S8x2048x128 : Shape := ⟨3, ![8, 2048, 128]⟩
abbrev S3 : Shape := ⟨1, ![3]⟩
abbrev S4 : Shape := ⟨1, ![4]⟩
abbrev S2 : Shape := ⟨1, ![2]⟩
abbrev S_ : Shape := ⟨0, ![]⟩
abbrev S1 : Shape := ⟨1, ![1]⟩
abbrev S1x2048x128 : Shape := ⟨3, ![1, 2048, 128]⟩
abbrev S2048x128 : Shape := ⟨2, ![2048, 128]⟩
abbrev S2048x32x128 : Shape := ⟨3, ![2048, 32, 128]⟩
abbrev S2048x1x128 : Shape := ⟨3, ![2048, 1, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S128x1024 : Shape := ⟨2, ![128, 1024]⟩
abbrev S1x128x1024 : Shape := ⟨3, ![1, 128, 1024]⟩

abbrev nBuf : Space → Nat
  | .hbm => 6
  | .vmem => 16
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x2048x32x128, .f32⟩
  | .hbm, ⟨3, _⟩ => ⟨S1x2048x32x128, .f32⟩
  | .hbm, ⟨4, _⟩ => ⟨S1024x1024, .f32⟩
  | .hbm, ⟨5, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1x512x1024, .f32⟩
  | .local _ .vmem, ⟨4, _⟩ => ⟨S512x1024, .bf16⟩
  | .local _ .vmem, ⟨5, _⟩ => ⟨S3x512x1024, .bf16⟩
  | .local _ .vmem, ⟨6, _⟩ => ⟨S3x512x1024, .bf16⟩
  | .local _ .vmem, ⟨7, _⟩ => ⟨S3x512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S2x2048x128, .f32⟩
  | .local _ .vmem, ⟨13, _⟩ => ⟨S2x2048x128, .f32⟩
  | .local _ .vmem, ⟨14, _⟩ => ⟨S8x2048x128, .bf16⟩
  | .local _ .vmem, ⟨15, _⟩ => ⟨S8x2048x128, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_6 : BitVec 32 := 1#32
  let v10 : BitVec 32 := Scalar.muli v5 c1_i32_6
  let v11 : BitVec 32 := Scalar.addi c0_i32 v10
  v11.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v12 : BitVec 32 := Scalar.muli v7 c1_i32_8
  let v13 : BitVec 32 := Scalar.addi c0_i32_9 v12
  v13.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_19 : BitVec 32 := 1#32
  let v22 : BitVec 32 := Scalar.muli v7 c1_i32_19
  let v23 : BitVec 32 := Scalar.addi c0_i32_20 v22
  v23.toNat
def k0_off1 (d0 : Dev nD) (c0_i32_31 : BitVec 32) : Fin 3 → Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let v44 : BitVec 32 := Scalar.addi v8 c0_i32_31
  let c0_i32_42 : BitVec 32 := 0#32
  ![0, v44.toNat, 0]
def k0_dev4 (d0 : Dev nD) : Nat :=
  let c0_i32_594 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_593 : BitVec 32 := 1#32
  let v591 : BitVec 32 := Scalar.muli v7 c1_i32_593
  let v592 : BitVec 32 := Scalar.addi c0_i32_594 v591
  v592.toNat
def k0_dev5 (d0 : Dev nD) : Nat :=
  let c0_i32_738 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_737 : BitVec 32 := 1#32
  let v771 : BitVec 32 := Scalar.muli v7 c1_i32_737
  let v772 : BitVec 32 := Scalar.addi c0_i32_738 v771
  v772.toNat
def k0_dev6 (d0 : Dev nD) : Nat :=
  let c0_i32_748 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_747 : BitVec 32 := 1#32
  let v781 : BitVec 32 := Scalar.muli v7 c1_i32_747
  let v782 : BitVec 32 := Scalar.addi c0_i32_748 v781
  v782.toNat
def k0_dev7 (d0 : Dev nD) : Nat :=
  let c0_i32_973 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_972 : BitVec 32 := 1#32
  let v1061 : BitVec 32 := Scalar.muli v7 c1_i32_972
  let v1062 : BitVec 32 := Scalar.addi c0_i32_973 v1061
  v1062.toNat
def k0_dev8 (d0 : Dev nD) : Nat :=
  let c0_i32_1056 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1055 : BitVec 32 := 1#32
  let v1162 : BitVec 32 := Scalar.muli v7 c1_i32_1055
  let v1163 : BitVec 32 := Scalar.addi c0_i32_1056 v1162
  v1163.toNat
def k0_dev9 (d0 : Dev nD) : Nat :=
  let c0_i32_1077 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1076 : BitVec 32 := 1#32
  let v1183 : BitVec 32 := Scalar.muli v7 c1_i32_1076
  let v1184 : BitVec 32 := Scalar.addi c0_i32_1077 v1183
  v1184.toNat
def k0_dev10 (d0 : Dev nD) : Nat :=
  let c0_i32_1097 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1096 : BitVec 32 := 1#32
  let v1204 : BitVec 32 := Scalar.muli v7 c1_i32_1096
  let v1205 : BitVec 32 := Scalar.addi c0_i32_1097 v1204
  v1205.toNat
def k0_dev11 (d0 : Dev nD) : Nat :=
  let c0_i32_1117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1116 : BitVec 32 := 1#32
  let v1225 : BitVec 32 := Scalar.muli v7 c1_i32_1116
  let v1226 : BitVec 32 := Scalar.addi c0_i32_1117 v1225
  v1226.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S1x2048x4096 : Shape := ⟨3, ![1, 2048, 4096]⟩
abbrev S_ : Shape := ⟨0, ![]⟩
abbrev S1x32x2048x1 : Shape := ⟨4, ![1, 32, 2048, 1]⟩
abbrev S1x1024x32x128 : Shape := ⟨4, ![1, 1024, 32, 128]⟩
abbrev S1x32x2048x1024 : Shape := ⟨4, ![1, 32, 2048, 1024]⟩
abbrev S1x32x2048 : Shape := ⟨3, ![1, 32, 2048]⟩
abbrev S1x2048x32x1 : Shape := ⟨4, ![1, 2048, 32, 1]⟩
abbrev S1x32x128x2048 : Shape := ⟨4, ![1, 32, 128, 2048]⟩

abbrev nBuf : Space → Nat
  | .hbm => 70
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x4096, .f32⟩
  | .hbm, ⟨2, _⟩ => ⟨S1x2048x32x128, .f32⟩
  | .hbm, ⟨3, _⟩ => ⟨S1x2048x32x128, .f32⟩
  | .hbm, ⟨4, _⟩ => ⟨S4096x1024, .f32⟩
  | .hbm, ⟨5, _⟩ => ⟨S1x2048x4096, .f32⟩
  | .hbm, ⟨6, _⟩ => ⟨S1x2048x32x128, .f32⟩
  | .hbm, ⟨7, _⟩ => ⟨S_, .f32⟩
  | .hbm, ⟨8, _⟩ => ⟨S1x2048x32x128, .f32⟩
  | .hbm, ⟨9, _⟩ => ⟨S_, .f32⟩
  | .hbm, ⟨10, _⟩ => ⟨S1x32x2048x1, .f32⟩
  | .hbm, ⟨11, _⟩ => ⟨S_, .f32⟩
  | .hbm, ⟨12, _⟩ => ⟨S1x32x2048x1, .f32⟩
  | .hbm, ⟨13, _⟩ => ⟨S1x1024x32x128, .f32⟩
  | .hbm, ⟨14, _⟩ => ⟨S1x1024x32x128, .f32⟩
  | .hbm, ⟨15, _⟩ => ⟨S1x32x2048x1024, .f32⟩
  | .hbm, ⟨16, _⟩ => ⟨S_, .f32⟩
  | .hbm, ⟨17, _⟩ => ⟨S1x32x2048x1024, .f32⟩
  | .hbm, ⟨18, _⟩ => ⟨S1x32x2048x1024, .f32⟩
  | .hbm, ⟨19, _⟩ => ⟨S_, .f32⟩
  | .hbm, ⟨20, _⟩ => ⟨S1x32x2048, .f32⟩
  | .hbm, ⟨21, _⟩ => ⟨S1x32x2048x1, .f32⟩
  | .hbm, ⟨22, _⟩ => ⟨S1x32x2048x1, .f32⟩
  | .hbm, ⟨23, _⟩ => ⟨S1x32x2048x1, .f32⟩
  | .hbm, ⟨24, _⟩ => ⟨S1x32x2048x1, .f32⟩
  | .hbm, ⟨25, _⟩ => ⟨S1x32x2048x1024, .f32⟩
  | .hbm, ⟨26, _⟩ => ⟨S1x32x2048x1024, .f32⟩
  | .hbm, ⟨27, _⟩ => ⟨S1x32x2048x1024, .f32⟩
  | .hbm, ⟨28, _⟩ => ⟨S1x32x2048x1, .f32⟩
  | .hbm, ⟨29, _⟩ => ⟨S_, .f32⟩
  | .hbm, ⟨30, _⟩ => ⟨S1x32x2048, .f32⟩
  | .hbm, ⟨31, _⟩ => ⟨S1x32x2048x1, .f32⟩
  | .hbm, ⟨32, _⟩ => ⟨S1x32x2048x1, .f32⟩
  | .hbm, ⟨33, _⟩ => ⟨S1x2048x32x1, .f32⟩
  | .hbm, ⟨34, _⟩ => ⟨S1x2048x32x128, .f32⟩
  | .hbm, ⟨35, _⟩ => ⟨S1x2048x32x128, .f32⟩
  | .hbm, ⟨36, _⟩ => ⟨S1x32x128x2048, .f32⟩
  | .hbm, ⟨37, _⟩ => ⟨S1x2048x32x128, .f32⟩
  | .hbm, ⟨38, _⟩ => ⟨S1x2048x32x128, .f32⟩
  | .hbm, ⟨39, _⟩ => ⟨S1x1024x32x128, .f32⟩
  | .hbm, ⟨40, _⟩ => ⟨S1x1024x32x128, .f32⟩
  | .hbm, ⟨41, _⟩ => ⟨S1x32x2048x1024, .f32⟩
  | .hbm, ⟨42, _⟩ => ⟨S_, .f32⟩
  | .hbm, ⟨43, _⟩ => ⟨S1x32x2048x1024, .f32⟩
  | .hbm, ⟨44, _⟩ => ⟨S1x32x2048x1024, .f32⟩
  | .hbm, ⟨45, _⟩ => ⟨S_, .f32⟩
  | .hbm, ⟨46, _⟩ => ⟨S1x32x2048, .f32⟩
  | .hbm, ⟨47, _⟩ => ⟨S1x32x2048x1, .f32⟩
  | .hbm, ⟨48, _⟩ => ⟨S1x32x2048x1, .f32⟩
  | .hbm, ⟨49, _⟩ => ⟨S1x32x2048x1, .f32⟩
  | .hbm, ⟨50, _⟩ => ⟨S1x32x2048x1, .f32⟩
  | .hbm, ⟨51, _⟩ => ⟨S1x32x2048x1024, .f32⟩
  | .hbm, ⟨52, _⟩ => ⟨S1x32x2048x1024, .f32⟩
  | .hbm, ⟨53, _⟩ => ⟨S1x32x2048x1024, .f32⟩
  | .hbm, ⟨54, _⟩ => ⟨S1x32x2048x1, .f32⟩
  | .hbm, ⟨55, _⟩ => ⟨S_, .f32⟩
  | .hbm, ⟨56, _⟩ => ⟨S1x32x2048, .f32⟩
  | .hbm, ⟨57, _⟩ => ⟨S1x32x2048x1, .f32⟩
  | .hbm, ⟨58, _⟩ => ⟨S1x32x2048x1, .f32⟩
  | .hbm, ⟨59, _⟩ => ⟨S1x2048x32x1, .f32⟩
  | .hbm, ⟨60, _⟩ => ⟨S1x2048x32x128, .f32⟩
  | .hbm, ⟨61, _⟩ => ⟨S1x2048x32x128, .f32⟩
  | .hbm, ⟨62, _⟩ => ⟨S1x32x128x2048, .f32⟩
  | .hbm, ⟨63, _⟩ => ⟨S1x2048x32x128, .f32⟩
  | .hbm, ⟨64, _⟩ => ⟨S1x2048x32x128, .f32⟩
  | .hbm, ⟨65, _⟩ => ⟨S1x2048x32x1, .f32⟩
  | .hbm, ⟨66, _⟩ => ⟨S1x2048x32x128, .f32⟩
  | .hbm, ⟨67, _⟩ => ⟨S1x2048x32x128, .f32⟩
  | .hbm, ⟨68, _⟩ => ⟨S1x2048x4096, .f32⟩
  | .hbm, ⟨69, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Proof.Ring.lean ====
/-
# The ring: devices, edges, cells and the schedule

Nine remote copies leave every device for the device after it, in this order: three hand on the activations
(edges 0–2), two hand on the first two partial sums (edges 3, 4), and four hand on the last partial sum in chunks of 128
rows (edges 5–8). An edge has a departure cell on the sender and an arrival cell on the receiver. The entry handshake
runs on the barrier semaphore: a device signals the one before it, handing over its own landing buffers, and the one
after it, handing over nothing.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's rounds: the left half of the right factor; the local copies' counters are the other half. -/
abbrev ER : Emb UB (MT nD τ sig Unit (Elt F) ℕ UU ℕ) := (Emb.inl : Emb UB (UB × Counters)).trans embR

/-! ## Devices -/

set_option backward.proofsInPublic true in
/-- The device after `c` on the ring. -/
def nxt (c : Dev nD) : Dev nD := ⟨(c.val + 1) % 4, Nat.mod_lt _ (by decide)⟩
set_option backward.proofsInPublic true in
/-- The device before `c` on the ring. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- Stepping on is a permutation of the devices. -/
def step : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = nxt c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)
theorem dev9_eq (c : Dev nD) : (⟨k0_dev9 c, k0_dev9_lt c⟩ : Dev nD) = nxt c := Fin.ext (k0_dev9_eq c)
theorem dev10_eq (c : Dev nD) : (⟨k0_dev10 c, k0_dev10_lt c⟩ : Dev nD) = nxt c := Fin.ext (k0_dev10_eq c)
theorem dev11_eq (c : Dev nD) : (⟨k0_dev11 c, k0_dev11_lt c⟩ : Dev nD) = nxt c := Fin.ext (k0_dev11_eq c)

/-! ## The buffers the edges run between -/

/-- The activations a device sends first. -/
abbrev xsM : Memref sig .tc .vmem S512x1024 .bf16 := Memref.whole cc0_scratch0
/-- The three slots the activations of the other devices land in. -/
abbrev xfM : Memref sig .tc .vmem S3x512x1024 .bf16 := Memref.whole cc0_scratch1
/-- The three partial sums. -/
abbrev paM : Memref sig .tc .vmem S3x512x1024 .bf16 := Memref.whole cc0_scratch2
/-- The three slots the partial sums of the device before land in. -/
abbrev rrM : Memref sig .tc .vmem S3x512x1024 .bf16 := Memref.whole cc0_scratch3

/-- Slot 0 of a three-slot buffer, -/
abbrev slot0 (M : Memref sig .tc .vmem S3x512x1024 .bf16) : Memref sig .tc .vmem S512x1024 .bf16 :=
  (M.slice (Rect.unit (s := S3x512x1024) ![0, 0, 0] S1x512x1024.size inb_S3x512x1024_S1x512x1024_0_0_0) (fun _ => rfl)).squeeze S512x1024 squeezes_S1x512x1024_S512x1024
/-- slot 1, -/
abbrev slot1 (M : Memref sig .tc .vmem S3x512x1024 .bf16) : Memref sig .tc .vmem S512x1024 .bf16 :=
  (M.slice (Rect.unit (s := S3x512x1024) ![1, 0, 0] S1x512x1024.size inb_S3x512x1024_S1x512x1024_1_0_0) (fun _ => rfl)).squeeze S512x1024 squeezes_S1x512x1024_S512x1024
/-- slot 2, -/
abbrev slot2 (M : Memref sig .tc .vmem S3x512x1024 .bf16) : Memref sig .tc .vmem S512x1024 .bf16 :=
  (M.slice (Rect.unit (s := S3x512x1024) ![2, 0, 0] S1x512x1024.size inb_S3x512x1024_S1x512x1024_2_0_0) (fun _ => rfl)).squeeze S512x1024 squeezes_S1x512x1024_S512x1024
/-- and the four row chunks of slot 2. -/
abbrev chunk0 (M : Memref sig .tc .vmem S3x512x1024 .bf16) : Memref sig .tc .vmem S128x1024 .bf16 :=
  (M.slice (Rect.unit (s := S3x512x1024) ![2, 0, 0] S1x128x1024.size inb_S3x512x1024_S1x128x1024_2_0_0) (fun _ => rfl)).squeeze S128x1024 squeezes_S1x128x1024_S128x1024
abbrev chunk1 (M : Memref sig .tc .vmem S3x512x1024 .bf16) : Memref sig .tc .vmem S128x1024 .bf16 :=
  (M.slice (Rect.unit (s := S3x512x1024) ![2, 128, 0] S1x128x1024.size inb_S3x512x1024_S1x128x1024_2_128_0) (fun _ => rfl)).squeeze S128x1024 squeezes_S1x128x1024_S128x1024
abbrev chunk2 (M : Memref sig .tc .vmem S3x512x1024 .bf16) : Memref sig .tc .vmem S128x1024 .bf16 :=
  (M.slice (Rect.unit (s := S3x512x1024) ![2, 256, 0] S1x128x1024.size inb_S3x512x1024_S1x128x1024_2_256_0) (fun _ => rfl)).squeeze S128x1024 squeezes_S1x128x1024_S128x1024
abbrev chunk3 (M : Memref sig .tc .vmem S3x512x1024 .bf16) : Memref sig .tc .vmem S128x1024 .bf16 :=
  (M.slice (Rect.unit (s := S3x512x1024) ![2, 384, 0] S1x128x1024.size inb_S3x512x1024_S1x128x1024_2_384_0) (fun _ => rfl)).squeeze S128x1024 squeezes_S1x128x1024_S128x1024

/-! ## The edges -/

/-- The shape an edge moves. -/
abbrev esh : Fin 9 → Shape := ![S512x1024, S512x1024, S512x1024, S512x1024, S512x1024, S128x1024, S128x1024, S128x1024, S128x1024]

/-- What an edge reads, on the sender. -/
abbrev esrc : (e : Fin 9) → Memref sig .tc .vmem (esh e) .bf16
  | 0 => xsM | 1 => slot0 xfM | 2 => slot1 xfM | 3 => slot0 paM | 4 => slot1 paM
  | 5 => chunk0 paM | 6 => chunk1 paM | 7 => chunk2 paM | 8 => chunk3 paM

/-- What an edge writes, on the receiver. -/
abbrev edst : (e : Fin 9) → Memref sig .tc .vmem (esh e) .bf16
  | 0 => slot0 xfM | 1 => slot1 xfM | 2 => slot2 xfM | 3 => slot0 rrM | 4 => slot1 rrM
  | 5 => chunk0 rrM | 6 => chunk1 rrM | 7 => chunk2 rrM | 8 => chunk3 rrM

/-- The share of its source an edge takes along: half where the sender reads it meanwhile. -/
abbrev eshare : Fin 9 → PosShare TreeShare := ![fullShare.left, fullShare.left, fullShare.left, fullShare, fullShare, fullShare, fullShare, fullShare, fullShare]

set_option backward.proofsInPublic true in
/-- The semaphore an edge's departure credits, -/
def sendS : Fin 9 → DmaSem sig := ![⟨4, by decide⟩, ⟨5, by decide⟩, ⟨6, by decide⟩, ⟨10, by decide⟩, ⟨11, by decide⟩, ⟨16, by decide⟩, ⟨17, by decide⟩, ⟨18, by decide⟩, ⟨19, by decide⟩]
set_option backward.proofsInPublic true in
/-- and its arrival. -/
def recvS : Fin 9 → DmaSem sig := ![⟨7, by decide⟩, ⟨8, by decide⟩, ⟨9, by decide⟩, ⟨13, by decide⟩, ⟨14, by decide⟩, ⟨20, by decide⟩, ⟨21, by decide⟩, ⟨22, by decide⟩, ⟨23, by decide⟩]

/-- The runtime's barrier semaphore. -/
abbrev barS : Sem sig := (SemArray.scalar (sig.barrier 0 rfl) : Sems sig S_).sem

abbrev barCell (c : Dev nD) : GSem nD τ sig := ((c : Thread nD τ), .reg barS)
abbrev sendCell (e : Fin 9) (c : Dev nD) : GSem nD τ sig := ((c : Thread nD τ), .dma (sendS e))
abbrev recvCell (e : Fin 9) (c : Dev nD) : GSem nD τ sig := ((c : Thread nD τ), .dma (recvS e))

/-- The credit an edge's copy is worth. -/
def amt (e : Fin 9) : ℕ := (edst e).view.dmaCredit
theorem amt_pos (e : Fin 9) : 0 < amt e := View.dmaCredit_pos _ (by fin_cases e <;> decide)

theorem sendS_injective : Function.Injective sendS := by decide
theorem recvS_injective : Function.Injective recvS := by decide
theorem sendS_ne_recvS : ∀ e e' : Fin 9, sendS e ≠ recvS e' := by decide

/-- The edge a semaphore is the departure of, if any, -/
def sendOf (s : SemLoc sig) : Option (Fin 9) := (List.finRange 9).find? fun e => s = .dma (sendS e)
/-- the edge it is the arrival of, if any. -/
def recvOf (s : SemLoc sig) : Option (Fin 9) := (List.finRange 9).find? fun e => s = .dma (recvS e)

theorem sendOf_send : ∀ e : Fin 9, sendOf (.dma (sendS e)) = some e := by decide
theorem recvOf_recv : ∀ e : Fin 9, recvOf (.dma (recvS e)) = some e := by decide
theorem sendOf_recv : ∀ e : Fin 9, sendOf (.dma (recvS e)) = none := by decide
theorem recvOf_send : ∀ e : Fin 9, recvOf (.dma (sendS e)) = none := by decide
theorem sendOf_bar : sendOf (.reg barS) = none := by decide
theorem recvOf_bar : recvOf (.reg barS) = none := by decide

end Cert.Ring
-- ==== Proof.Protocol.lean ====
/-
# The protocol: who pays which cell with what, what is owed, and the steps a body takes

`V e c` is what device `c` sends along edge `e`. One round: the barrier cell of a device has two duties of one unit,
`true` paid by the device after it (payload: that device's nine landing buffers) and `false` paid by the device before it
(no payload); an edge's departure and arrival cells have one duty each, worth the copy's credit. The departure gives the
sender its share of the source back; the arrival gives the receiver its landing buffer holding what was sent.
-/
module

public import proofs.«01_k».proof.Proof.Ring

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What every device sends along every edge. -/
abbrev Sent (F : FTy → Type) : Type := (e : Fin 9) → Dev nD → (esh e).Idx → Elt F .bf16

variable (V : Sent F)

/-! ## Payloads and schedule -/

/-- Device `c`'s landing buffer of edge `e`, at any contents. -/
def landing (e : Fin 9) (c : Dev nD) : sProp 𝕄 := iprop(∃ X, owns (c : Thread nD τ) (edst e) fullShare X)
/-- The nine landing buffers of the device after `c`, which `c` may write to. -/
def barPay (c : Dev nD) : sProp 𝕄 := bigSep Finset.univ fun e : Fin 9 => landing e (nxt c)
/-- The sender's share of the source, back. -/
def sendPay (e : Fin 9) (c : Dev nD) : sProp 𝕄 := owns (c : Thread nD τ) (esrc e) (eshare e) (V e c)
/-- The landing buffer, holding what the device before sent. -/
def recvPay (e : Fin 9) (c : Dev nD) : sProp 𝕄 := owns (c : Thread nD τ) (edst e) fullShare (V e (prv c))

omit [FloatOps F] in
/-- The nine landing buffers one by one. -/
theorem landings (c : Dev nD) : (bigSep Finset.univ fun e : Fin 9 => landing (F := F) e c)
    = iprop(landing 0 c ∗ landing 1 c ∗ landing 2 c ∗ landing 3 c ∗ landing 4 c ∗ landing 5 c ∗ landing 6 c ∗ landing 7 c ∗ landing 8 c) := by
  rw [bigSep_univ_eq_bigSepL [0, 1, 2, 3, 4, 5, 6, 7, 8] (by decide) (by decide)]
  simp only [bigSepL_cons_cons, bigSepL_singleton]; rfl

omit [FloatOps F] in
instance landing_storable (e : Fin 9) (c : Dev nD) : BI.Storable (upEmb : UEmb _ 𝕄) (landing (F := F) e c) := by unfold landing; infer_instance
omit [FloatOps F] in
instance barPay_storable (c : Dev nD) : BI.Storable (upEmb : UEmb _ 𝕄) (barPay (F := F) c) := by unfold barPay; infer_instance
omit [FloatOps F] in
instance sendPay_storable (e : Fin 9) (c : Dev nD) : BI.Storable (upEmb : UEmb _ 𝕄) (sendPay V e c) := by unfold sendPay; infer_instance
omit [FloatOps F] in
instance recvPay_storable (e : Fin 9) (c : Dev nD) : BI.Storable (upEmb : UEmb _ 𝕄) (recvPay V e c) := by unfold recvPay; infer_instance

/-- What a duty's payment delivers. -/
def payOf (g : GSem nD τ sig) (d : Bool) : sProp 𝕄 :=
  match sendOf g.2, recvOf g.2 with
  | some e, _ => sendPay V e g.1.1
  | none, some e => recvPay V e g.1.1
  | none, none => if d then barPay g.1.1 else iprop(emp)

/-- How much a duty of a semaphore is worth. -/
def amtOf (s : SemLoc sig) : ℕ :=
  match sendOf s, recvOf s with
  | some e, _ => amt e
  | none, some e => amt e
  | none, none => 1

/-- The duties a semaphore has in round 0. -/
def dutiesOf (s : SemLoc sig) : Finset Bool :=
  match sendOf s, recvOf s with
  | some _, _ => {false}
  | none, some _ => {false}
  | none, none => if s = .reg barS then Finset.univ else ∅

/-- The schedule: one round. -/
def rd : Rounds.Schedule (GSem nD τ sig) Bool 𝕄 where
  duties g r := if r = 0 ∧ g.1.2 = .tc then dutiesOf g.2 else ∅
  unitless _ := False
  amount g _ _ := amtOf g.2
  payload g _ d := payOf V g d
  amount_pos g _ _ _ := by
    unfold amtOf
    split <;> first | exact amt_pos _ | exact Nat.one_pos

omit [FloatOps F] in
instance rd_payload_storable (g : GSem nD τ sig) (r : ℕ) (d : Bool) :
    BI.Storable (upEmb : UEmb _ 𝕄) ((rd (F := F) V).payload g r d) := by
  show BI.Storable upEmb (payOf V g d)
  unfold payOf
  (repeat' split) <;> infer_instance

section Tables
variable (e : Fin 9) (c : Dev nD)

omit [FloatOps F] in
theorem duties_bar : (rd V).duties (barCell c) 0 = Finset.univ := by
  dsimp only [rd]; rw [if_pos ⟨rfl, rfl⟩]; unfold dutiesOf; rw [sendOf_bar, recvOf_bar]; exact if_pos rfl
omit [FloatOps F] in
theorem duties_send : (rd V).duties (sendCell e c) 0 = {false} := by
  dsimp only [rd]; rw [if_pos ⟨rfl, rfl⟩]; unfold dutiesOf; rw [sendOf_send]
omit [FloatOps F] in
theorem duties_recv : (rd V).duties (recvCell e c) 0 = {false} := by
  dsimp only [rd]; rw [if_pos ⟨rfl, rfl⟩]; unfold dutiesOf; rw [sendOf_recv, recvOf_recv]
omit [FloatOps F] in
theorem duties_later (g : GSem nD τ sig) : ∀ r, 1 ≤ r → (rd V).duties g r = ∅ := fun r hr => by
  dsimp only [rd]; rw [if_neg fun h => by omega]

omit [FloatOps F] in
theorem amount_bar (d : Bool) : (rd V).amount (barCell c) 0 d = 1 := by
  dsimp only [rd]; unfold amtOf; rw [sendOf_bar, recvOf_bar]
omit [FloatOps F] in
theorem amount_send (d : Bool) : (rd V).amount (sendCell e c) 0 d = amt e := by
  dsimp only [rd]; unfold amtOf; rw [sendOf_send]
omit [FloatOps F] in
theorem amount_recv (d : Bool) : (rd V).amount (recvCell e c) 0 d = amt e := by
  dsimp only [rd]; unfold amtOf; rw [sendOf_recv, recvOf_recv]

omit [FloatOps F] in
theorem expect_bar : (rd V).expect (barCell c) 0 = 2 := by
  unfold Schedule.expect Schedule.amountOf
  rw [duties_bar, Finset.sum_congr rfl fun d _ => amount_bar V c d, Finset.sum_const, Finset.card_univ, Fintype.card_bool, smul_eq_mul]
omit [FloatOps F] in
theorem expect_send : (rd V).expect (sendCell e c) 0 = amt e := by
  unfold Schedule.expect Schedule.amountOf; rw [duties_send, Finset.sum_singleton, amount_send]
omit [FloatOps F] in
theorem expect_recv : (rd V).expect (recvCell e c) 0 = amt e := by
  unfold Schedule.expect Schedule.amountOf; rw [duties_recv, Finset.sum_singleton, amount_recv]

omit [FloatOps F] in
theorem payload_bar_true : (rd V).payload (barCell c) 0 true = barPay c := by
  dsimp only [rd]; unfold payOf; rw [sendOf_bar, recvOf_bar]; exact if_pos rfl
omit [FloatOps F] in
theorem payload_bar_false : (rd V).payload (barCell c) 0 false = iprop(emp) := by
  dsimp only [rd]; unfold payOf; rw [sendOf_bar, recvOf_bar]; exact if_neg Bool.false_ne_true
omit [FloatOps F] in
theorem payload_send (d : Bool) : (rd V).payload (sendCell e c) 0 d = sendPay V e c := by
  dsimp only [rd]; unfold payOf; rw [sendOf_send]
omit [FloatOps F] in
theorem payload_recv (d : Bool) : (rd V).payload (recvCell e c) 0 d = recvPay V e c := by
  dsimp only [rd]; unfold payOf; rw [sendOf_recv, recvOf_recv]

omit [FloatOps F] in
/-- All of the barrier cell's round: nothing, and the landing buffers of the device after. -/
theorem rest_bar : bigSep ((rd V).duties (barCell c) 0 \ ∅) (fun d => (rd V).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
omit [FloatOps F] in
theorem rest_send : bigSep ((rd V).duties (sendCell e c) 0 \ ∅) (fun d => (rd V).payload (sendCell e c) 0 d) = sendPay V e c := by
  rw [Finset.sdiff_empty, duties_send, bigSep_singleton, payload_send]
omit [FloatOps F] in
theorem rest_recv : bigSep ((rd V).duties (recvCell e c) 0 \ ∅) (fun d => (rd V).payload (recvCell e c) 0 d) = recvPay V e c := by
  rw [Finset.sdiff_empty, duties_recv, bigSep_singleton, payload_recv]

end Tables

/-! ## What is owed, and the levels -/

/-- What the copy along edge `e` pays to the device after `c`. -/
def due (e : Fin 9) (c : Dev nD) : CellTallies nD τ sig Unit := tallyAt (recvCell e (nxt c)) () (amt e)

/-- What device `c` still owes to the device after it once the edges below `k` have left. -/
def owe (c : Dev nD) (k : ℕ) : CellTallies nD τ sig Unit := ∑ e ∈ Finset.univ.filter (fun e : Fin 9 => k ≤ e.val), due e c
/-- Before its second signal it also owes the device after it a unit, -/
def owe₁ (c : Dev nD) : CellTallies nD τ sig Unit := owe c 0 + tallyAt (barCell (nxt c)) () 1
/-- and before its first the device before it too. -/
def owe₀ (c : Dev nD) : CellTallies nD τ sig Unit := owe₁ c + tallyAt (barCell (prv c)) () 1

theorem owe_step (c : Dev nD) (e : Fin 9) : owe c e.val = owe c (e.val + 1) + due e c := by
  unfold owe
  rw [show (Finset.univ.filter fun e' : Fin 9 => e.val ≤ e'.val) = insert e (Finset.univ.filter fun e' : Fin 9 => e.val + 1 ≤ e'.val) from by
    ext e'; simp only [Finset.mem_filter, Finset.mem_univ, true_and, Finset.mem_insert, Fin.ext_iff]; omega]
  rw [Finset.sum_insert (by simp), add_comm]
theorem owe_end (c : Dev nD) : owe c 9 = 0 := by
  unfold owe
  rw [Finset.filter_false_of_mem fun e _ => by omega, Finset.sum_empty]

theorem owe_pos {c : Dev nD} {k : ℕ} {g : GSem nD τ sig} {u : Unit} (h : 0 < owe c k g u) : ∃ e : Fin 9, k ≤ e.val ∧ g = recvCell e (nxt c) := by
  by_contra hn
  push Not at hn
  have hz : owe c k g u = 0 := by
    unfold owe
    rw [Finset.sum_apply, Finsupp.finset_sum_apply]
    refine Finset.sum_eq_zero fun e he => ?_
    unfold due
    rw [tallyAt_apply, if_neg fun h' => hn e (Finset.mem_filter.mp he).2 h'.1]
  omega

def L (g : GSem nD τ sig) : Finset Unit := if g.1.2 = .tc then {()} else ∅
/-- The barrier at 1, edge `e`'s arrival at `e + 2`, everything else at 0. -/
def lv (g : GSem nD τ sig) (_ : Unit) : ℕ := if g.2 = .reg barS then 1 else match recvOf g.2 with | some e => e.val + 2 | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (e : Fin 9) (c : Dev nD) : lv (recvCell e c) () = e.val + 2 := by
  unfold lv; rw [if_neg (fun h => by cases h), recvOf_recv]

theorem lv_other (c : Dev nD) (s : SemLoc sig) (hb : s ≠ .reg barS) (hr : recvOf s = none) : lv ((c : Thread nD τ), s) () = 0 := by
  unfold lv; rw [if_neg hb]; show (match recvOf s with | some e => e.val + 2 | none => 0) = 0; rw [hr]

omit [FloatOps F] in
/-- A device may wait on its semaphore `s` when its level is below those of the arrivals still owed. -/
theorem mayWait_owe (c : Dev nD) (s : SemLoc sig) (k : ℕ) (hs : lv ((c : Thread nD τ), s) () ≤ k + 1) :
    (levAts L lv : sProp 𝕄) ⊢ MayWait (c : Thread nD τ) s () (owe c k) := by
  refine MayOwe.of_cut (L := L) (lev := lv) (k + 1) (fun p hp => by rw [Finset.mem_singleton.mp hp, L_tc]; exact Finset.mem_singleton_self _)
      (fun g u hg => by obtain ⟨e, -, rfl⟩ := owe_pos hg; rw [L_tc]; exact Finset.mem_singleton_self _)
      (fun p hp => by rw [Finset.mem_singleton.mp hp]; exact hs)
      (fun g u hg => by obtain ⟨e, he, rfl⟩ := owe_pos hg; rw [lv_recv]; omega)

theorem owe₁_pos {c : Dev nD} {g : GSem nD τ sig} {u : Unit} (h : 0 < owe₁ c g u) : (∃ e : Fin 9, g = recvCell e (nxt c)) ∨ g = barCell (nxt c) := by
  unfold owe₁ at h
  rw [Pi.add_apply, Finsupp.add_apply, tallyAt_apply] at h
  by_cases h' : g = barCell (nxt c) ∧ u = ()
  · exact .inr h'.1
  · rw [if_neg h'] at h
    obtain ⟨e, -, he⟩ := owe_pos (by simpa using h)
    exact .inl ⟨e, he⟩
theorem owe₀_pos {c : Dev nD} {g : GSem nD τ sig} {u : Unit} (h : 0 < owe₀ c g u) :
    (∃ e : Fin 9, g = recvCell e (nxt c)) ∨ g = barCell (nxt c) ∨ g = barCell (prv c) := by
  unfold owe₀ at h
  rw [Pi.add_apply, Finsupp.add_apply, tallyAt_apply] at h
  by_cases h' : g = barCell (prv c) ∧ u = ()
  · exact .inr (.inr h'.1)
  · rw [if_neg h'] at h
    rcases owe₁_pos (by simpa using h) with h | h
    · exact .inl h
    · exact .inr (.inl h)

omit [FloatOps F] in
/-- At launch a device may wait on any semaphore of level 0. -/
theorem mayWait_launch (c : Dev nD) (s : SemLoc sig) (hs : lv ((c : Thread nD τ), s) () = 0) :
    (levAts L lv : sProp 𝕄) ⊢ MayWait (c : Thread nD τ) s () (owe₀ c) := by
  refine MayOwe.of_cut (L := L) (lev := lv) 0 (fun p hp => by rw [Finset.mem_singleton.mp hp, L_tc]; exact Finset.mem_singleton_self _)
      (fun g u hg => by rcases owe₀_pos hg with ⟨e, rfl⟩ | rfl | rfl <;> exact Finset.mem_singleton_self _)
      (fun p hp => by rw [Finset.mem_singleton.mp hp]; exact hs.le)
      (fun g u hg => by
        rcases owe₀_pos hg with ⟨e, rfl⟩ | rfl | rfl
        · rw [lv_recv]; omega
        · rw [lv_bar]; decide
        · rw [lv_bar]; decide)

/-! ## The cells, and what is known of all of them -/

/-- The protocol's cells of a device: the barrier, the nine departures, the nine arrivals. -/
abbrev CIx : Type := Option (Bool × Fin 9)
def csem : CIx → SemLoc sig
  | none => .reg barS
  | some (false, e) => .dma (sendS e)
  | some (true, e) => .dma (recvS e)
abbrev kcell (ck : Dev nD × CIx) : GSem nD τ sig := ((ck.1 : Thread nD τ), csem ck.2)

theorem csem_injective : Function.Injective csem := by decide

/-- Every cell's invariant, under the names `K`, and that it has reached round 0. -/
def recs (K : Dev nD × CIx → ℕ) : sProp 𝕄 :=
  iprop((bigSep Finset.univ fun ck => cellInv ER (rd V) (K ck) (kcell ck)) ∗ bigSep Finset.univ fun ck => reached ER (kcell ck) 0)

omit [FloatOps F] in
instance recs_persistent (K) : BI.Persistent (recs V K) := by unfold recs; infer_instance

omit [FloatOps F] in
theorem recs_inv (K) (ck : Dev nD × CIx) : recs V K ⊢ cellInv ER (rd V) (K ck) (kcell ck) := by
  have h : (bigSep Finset.univ fun ck => (cellInv ER (rd V) (K ck) (kcell ck) : sProp 𝕄)) ⊢ cellInv ER (rd V) (K ck) (kcell ck) :=
    bigSep_elim (Finset.mem_univ ck)
  unfold recs; iintro ⟨H, -⟩
  iapply h; iexact H
omit [FloatOps F] in
theorem recs_reached (K) (ck : Dev nD × CIx) : recs V K ⊢ reached ER (kcell ck) 0 := by
  have h : (bigSep Finset.univ fun ck => (reached ER (kcell ck) 0 : sProp 𝕄)) ⊢ reached ER (kcell ck) 0 :=
    bigSep_elim (Finset.mem_univ ck)
  unfold recs; iintro ⟨-, H⟩
  iapply h; iexact H

/-! ## The steps -/

abbrev 𝒱₀ : Variants := Variants.none

/-- Device `c` owes `O`, having waited on anything. -/
def owing (c : Dev nD) (O : CellTallies nD τ sig Unit) : sProp 𝕄 := iprop(∃ W, owes (c : Thread nD τ) O W)

/-- What a device needs to send along edge `e`: its two duty tokens. -/
def sendTok (e : Fin 9) (c : Dev nD) : sProp 𝕄 := iprop(dutyTok ER (sendCell e c) 0 false ∗ dutyTok ER (recvCell e (nxt c)) 0 false)
/-- What it needs to wait for the departure, once sent, -/
def sendWait (e : Fin 9) (c : Dev nD) : sProp 𝕄 := iprop(cred (tallyAt (sendCell e c) () (amt e)) ∗ atPos ER (sendCell e c) 0 ∅ 0)
/-- and for the arrival. -/
def recvWait (e : Fin 9) (c : Dev nD) : sProp 𝕄 := iprop(cred (tallyAt (recvCell e c) () (amt e)) ∗ atPos ER (recvCell e c) 0 ∅ 0)

section Steps
variable (K : Dev nD × CIx → ℕ) (c : Dev nD)

/-- The first signal, to the device before: hands over the landing buffers. -/
theorem step_signal_prv (n : Dev nD) (hn : n = prv c) {α : Type} {Q : α → sProp 𝕄} {k : PUnit → Prog (TpuEff nD τ sig (Elt F) Λ₀ .tc) α} :
    iprop(recs V K ∗ owing c (owe₀ c) ∗ dutyTok ER (barCell (prv c)) 0 true ∗ (bigSep Finset.univ fun e : Fin 9 => landing e c))
      ⊢ iprop((owing c (owe₁ c) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32).toInt) k) Q) := by
  subst hn
  unfold owing
  iintro ⟨#HR, ⟨%W, HO⟩, Ht, Hl⟩
  ihave #HI := (recs_inv V K (prv c, none)) $$ HR
  ihave #Hr := (recs_reached V K (prv c, none)) $$ HR
  iintro Hk
  iapply (Rounds.wp_signal 𝒱₀ ER (rd V) (c : Thread nD τ) none (dst := (prv c : Thread nD τ)) (κ := K (prv c, none))
      (d := true) (by rw [duties_bar]; exact Finset.mem_univ _) ((amount_bar V (prv c) true).trans (by decide)) () (owe₁ c) rfl) $$ [HO Ht Hl]
  · isplitr; · iexact HI
    isplitl [HO]; · iexact HO
    isplitl [Ht]; · iexact Ht
    isplitl [Hl]
    · rw [payload_bar_true]; unfold barPay; rw [nxt_prv]; iexact Hl
    · iexact Hr
  iintro HO; iapply Hk; iexists W; iexact HO

/-- The second signal, to the device after: hands over nothing. -/
theorem step_signal_nxt (n : Dev nD) (hn : n = nxt c) {α : Type} {Q : α → sProp 𝕄} {k : PUnit → Prog (TpuEff nD τ sig (Elt F) Λ₀ .tc) α} :
    iprop(recs V K ∗ owing c (owe₁ c) ∗ dutyTok ER (barCell (nxt c)) 0 false)
      ⊢ iprop((owing c (owe c 0) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32).toInt) k) Q) := by
  subst hn
  unfold owing
  iintro ⟨#HR, ⟨%W, HO⟩, Ht⟩
  ihave #HI := (recs_inv V K (nxt c, none)) $$ HR
  ihave #Hr := (recs_reached V K (nxt c, none)) $$ HR
  iintro Hk
  iapply (Rounds.wp_signal 𝒱₀ ER (rd V) (c : Thread nD τ) none (dst := (nxt c : Thread nD τ)) (κ := K (nxt c, none))
      (d := false) (by rw [duties_bar]; exact Finset.mem_univ _) ((amount_bar V (nxt c) false).trans (by decide)) () (owe c 0) rfl) $$ [HO Ht]
  · isplitr; · iexact HI
    isplitl [HO]; · iexact HO
    isplitl [Ht]; · iexact Ht
    isplitr; · rw [payload_bar_false]; iempintro
    iexact Hr
  iintro HO; iapply Hk; iexists W; iexact HO

/-- The wait for both neighbours' signals: the landing buffers of the device after come with it, and the barrier cell closes. -/
theorem step_wait_bar {α : Type} {Q : α → sProp 𝕄} {k : PUnit → Prog (TpuEff nD τ sig (Elt F) Λ₀ .tc) α} :
    iprop(recs V K ∗ levAts L lv ∗ owing c (owe c 0) ∗ cred (tallyAt (barCell c) () 2) ∗ atPos ER (barCell c) 0 ∅ 0)
      ⊢ iprop((owing c (owe c 0) ∗ semVal (barCell c) 0 ∗ (bigSep Finset.univ fun e : Fin 9 => landing e (nxt c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (2#32).toInt) k) Q) := by
  unfold owing
  iintro ⟨#HR, #Hlev, ⟨%W, HO⟩, Hc, Ha⟩
  ihave #HI := (recs_inv V K (c, none)) $$ HR
  iintro Hk
  iapply (Rounds.wp_wait_rest_token 𝒱₀ ER (rd V) (c : Thread nD τ) none (κ := K (c, none))
      (wpE_semWait_eq 𝒱₀ (c : Thread nD τ) none Set.univ) (Set.mem_univ _) () (O := owe c 0) (W := W) (R := 0) (m := 0) (T := ∅)
      (by rw [expect_bar]; decide)) $$ [Hc HO Ha]
  · isplitr; · iexact HI
    isplitl [Hc]; · iexact Hc
    isplitl [HO]; · iexact HO
    isplitr; · iapply (mayWait_owe c (.reg barS) 0 (by rw [lv_bar])); iexact Hlev
    iexact Ha
  iintro ⟨HO, Ha, -, Hpay⟩
  ihave Hp := (Entails.of_eq (rest_bar V c)) $$ Hpay
  unfold barPay
  icases Hp with ⟨-, Hp⟩
  imod (Rounds.cell_close ER (rd V) (Set.mem_univ (K (c, none))) (fun h => h) (R := 0 + 1) (duties_later V (barCell c))) $$ [Ha] with Hz
  · isplitr; · iexact HI
    iexact Ha
  iapply Hk
  isplitl [HO]; · iexists _; iexact HO
  isplitl [Hz]; · iexact Hz
  iexact Hp

/-- The copy along edge `e`: takes the source's share and the receiver's landing buffer. -/
theorem step_send (e : Fin 9) (j : ℕ) (hj : j = e.val + 1) (n : Dev nD) (hn : n = nxt c) {src dst : Memref sig .tc .vmem (esh e) .bf16} {sS sem : DmaSem sig}
    (hs : src = esrc e) (hd : dst = edst e) (hsS : sS = sendS e) (hsem : sem = recvS e)
    {hsc : (dst : Memref sig (Dev.tc n : Thread nD τ).2.kind .vmem (esh e) .bf16).view.ref.isScScratch = false}
    {hsrc : src.view.WordExact} {hdst : dst.view.WordExact}
    {hty : DmaTarget.Typed .vmem (.dma sem) (.remote (Dev.tc n : Thread nD τ) dst (.dma sS) hsc)}
    {α : Type} {Q : α → sProp 𝕄} {k : PUnit → Prog (TpuEff nD τ sig (Elt F) Λ₀ .tc) α} :
    iprop(recs V K ∗ owing c (owe c e.val) ∗ sendTok e c ∗ atPos ER (sendCell e c) 0 ∅ 0 ∗ owns (c : Thread nD τ) (esrc e) (eshare e) (V e c) ∗ landing e (nxt c))
      ⊢ iprop((owing c (owe c j) ∗ sendWait e c -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sem) hsrc hdst hty) k) Q) := by
  subst hn hs hd hsS hsem hj
  unfold owing sendTok sendWait landing
  rw [owe_step c e]
  iintro ⟨#HR, ⟨%W, HO⟩, ⟨Hts, Htr⟩, Ha, Hsrc, ⟨%X, Hdst⟩⟩
  ihave #HIs := (recs_inv V K (c, some (false, e))) $$ HR
  ihave #Hrs := (recs_reached V K (c, some (false, e))) $$ HR
  ihave #HIr := (recs_inv V K (nxt c, some (true, e))) $$ HR
  ihave #Hrr := (recs_reached V K (nxt c, some (true, e))) $$ HR
  iintro Hk
  ihave Hsrc := (show owns (c : Thread nD τ) (esrc e) (eshare e) (V e c)
      ⊢ (iprop(∃ f, ⌜(esrc e).view.read (Elt F) f = V e c⌝ ∗ ((esrc e).view.loc (c : Thread nD τ) ↦[(esrc e).view.set]{eshare e} f)) : sProp 𝕄) from by unfold owns; exact .rfl) $$ Hsrc
  icases Hsrc with ⟨%fs, %hfs, Hsrc⟩
  ihave Hdst := (show owns (nxt c : Thread nD τ) (edst e) fullShare X
      ⊢ (iprop(∃ f, ⌜(edst e).view.read (Elt F) f = X⌝ ∗ ((edst e).view.loc (nxt c : Thread nD τ) ↦[(edst e).view.set]{fullShare} f)) : sProp 𝕄) from by unfold owns; exact .rfl) $$ Hdst
  icases Hdst with ⟨%fd, -, Hdst⟩
  iapply (Rounds.wp_send_pointsTo 𝒱₀ ER (rd V) (c : Thread nD τ) none (κ₁ := K (c, some (false, e))) (κ₂ := K (nxt c, some (true, e)))
    (r₁ := 0) (r₂ := 0) (d₁ := false) (d₂ := false) (fd := fd) (fs := fs) (q := eshare e)
    (by rw [duties_send]; exact Finset.mem_singleton_self _) (by rw [duties_recv]; exact Finset.mem_singleton_self _)
    () () (amt e) rfl (amount_send V e c false) (amount_recv V e (nxt c) false) (owe c (e.val + 1)) rfl (W := W)
    (by
      rw [payload_send]; unfold sendPay owns
      iintro H; iexists fs; isplitr; · ipureintro; exact hfs
      iexact H)
    (by
      rw [payload_recv]; unfold recvPay owns; rw [prv_nxt, ← hfs]
      iintro H; iexists (edst e).view.write (Elt F) fd ((esrc e).view.read (Elt F) fs) Finset.univ
      isplitr; · ipureintro; exact View.read_write_univ _ _
      iexact H)) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hc, HO⟩
  iapply Hk
  isplitl [HO]; · iexists W; iexact HO
  isplitl [Hc]; · iexact Hc
  iexact Ha

/-- The wait for edge `e`'s arrival, everything up to it having been sent: the landing buffer holding what the device before sent;
    the cell closes. -/
theorem step_recv (e : Fin 9) (j : ℕ) (hj : e.val < j) {src dst : Memref sig .tc .vmem (esh e) .bf16} {sem : DmaSem sig}
    (hd : dst = edst e) (hsem : sem = recvS e) {hsrc : src.view.WordExact} {hdst : dst.view.WordExact}
    {α : Type} {Q : α → sProp 𝕄} {k : PUnit → Prog (TpuEff nD τ sig (Elt F) Λ₀ .tc) α} :
    iprop(recs V K ∗ levAts L lv ∗ owing c (owe c j) ∗ recvWait e c)
      ⊢ iprop((owing c (owe c j) ∗ semVal (recvCell e c) 0 ∗ owns (c : Thread nD τ) (edst e) fullShare (V e (prv c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hd hsem
  unfold owing recvWait
  iintro ⟨#HR, #Hlev, ⟨%W, HO⟩, ⟨Hc, Ha⟩⟩
  ihave #HI := (recs_inv V K (c, some (true, e))) $$ HR
  iintro Hk
  iapply (Rounds.wp_wait_rest_token 𝒱₀ ER (rd V) (c : Thread nD τ) none (κ := K (c, some (true, e)))
      (wpE_waitDma2_eq 𝒱₀ (c : Thread nD τ) none Set.univ) (Set.mem_univ _) () (O := owe c j) (W := W) (R := 0) (m := 0) (T := ∅)
      (by rw [Nat.zero_add, expect_recv]; rfl)) $$ [Hc HO Ha]
  · isplitr; · iexact HI
    isplitl [Hc]; · iexact Hc
    isplitl [HO]; · iexact HO
    isplitr; · iapply (mayWait_owe c (.dma (recvS e)) j (by rw [lv_recv]; omega)); iexact Hlev
    iexact Ha
  iintro ⟨HO, Ha, -, Hpay⟩
  ihave Hp := (Entails.of_eq (rest_recv V e c)) $$ Hpay
  unfold recvPay
  imod (Rounds.cell_close ER (rd V) (Set.mem_univ (K (c, some (true, e)))) (fun h => h) (R := 0 + 1) (duties_later V (recvCell e c))) $$ [Ha] with Hz
  · isplitr; · iexact HI
    iexact Ha
  iapply Hk
  isplitl [HO]; · iexists _; iexact HO
  isplitl [Hz]; · iexact Hz
  iexact Hp

/-- The wait for edge `e`'s departure, with nothing owed any more: the source's share back; the cell closes. -/
theorem step_sent (e : Fin 9) {src dst : Memref sig .tc .vmem (esh e) .bf16} {sem : DmaSem sig}
    (hd : dst.view.dmaCredit = amt e) (hsem : sem = sendS e) {hsrc : src.view.WordExact} {hdst : dst.view.WordExact}
    {α : Type} {Q : α → sProp 𝕄} {k : PUnit → Prog (TpuEff nD τ sig (Elt F) Λ₀ .tc) α} :
    iprop(recs V K ∗ owing c (owe c 9) ∗ sendWait e c)
      ⊢ iprop((owing c (owe c 9) ∗ semVal (sendCell e c) 0 ∗ owns (c : Thread nD τ) (esrc e) (eshare e) (V e c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  unfold owing sendWait
  rw [owe_end]
  iintro ⟨#HR, ⟨%W, HO⟩, ⟨Hc, Ha⟩⟩
  ihave #HI := (recs_inv V K (c, some (false, e))) $$ HR
  rw [← hd]
  iintro Hk
  iapply (Rounds.wp_wait_rest_token 𝒱₀ ER (rd V) (c : Thread nD τ) none (κ := K (c, some (false, e)))
      (wpE_waitDma2_eq 𝒱₀ (c : Thread nD τ) none Set.univ) (Set.mem_univ _) () (O := 0) (W := W) (R := 0) (m := 0) (T := ∅)
      (by rw [Nat.zero_add, expect_send]; exact hd)) $$ [Hc HO Ha]
  · isplitr; · iexact HI
    isplitl [Hc]; · iexact Hc
    isplitl [HO]; · iexact HO
    isplitr; · rw [MayWait_zero]; iempintro
    iexact Ha
  iintro ⟨HO, Ha, -, Hpay⟩
  ihave Hp := (Entails.of_eq (rest_send V e c)) $$ Hpay
  unfold sendPay
  imod (Rounds.cell_close ER (rd V) (Set.mem_univ (K (c, some (false, e)))) (fun h => h) (R := 0 + 1) (duties_later V (sendCell e c))) $$ [Ha] with Hz
  · isplitr; · iexact HI
    iexact Ha
  iapply Hk
  isplitl [HO]; · iexists _; iexact HO
  isplitl [Hz]; · iexact Hz
  iexact Hp

end Steps

end Cert.Ring
-- ==== Proof.Cuts.lean ====
/-
# The body cut into stretches

The body's chain of parts, cut before parts 22, 28, 34 and 40 and before its last waits: the device's own block of
queries, the blocks of the three other devices, and the exchange of the last sum.
-/
module

public import proofs.«01_k».proof.Proof.Ring
public import Idealize.ShloMosaic.Lib.Tactic.Stretches

@[expose] public section

noncomputable section

namespace Cert.Ring

open Cert.KernelIdeal Cert.KernelIdeal.Gen
open Idealize.ShloMosaic

cut_chain top := cc0_body_skel at 2
cut_chain mid := cc0_body_skel / 1 at 22, 28, 34, 40

end Cert.Ring
-- ==== Proof.Values.lean ====
/-
# What the buffers hold

The vectors that the body computes, at any float values: a device's queries times keys head by head, the eight heads side by
side, and their product with the output weights; and what a buffer written piece by piece reads as.
-/
module

public import proofs.«01_k».proof.Proof.Ring
public import Idealize.ShloMosaic.Lib.VecWindow
public import Idealize.ShloMosaic.Lib.Pipeline.FrameBody
public import Idealize.ShloMosaic.Lib.Pipeline.Value
public import Idealize.ShloMosaic.Lib.ValueIdxCore
public import Idealize.ShloMosaic.Lib.ValueLayout

@[expose] public section

noncomputable section

namespace Cert.Ring

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Heads -/

/-- The columns of head `h` in a matrix of eight heads. -/
abbrev colR (h : Fin 8) : Rect S512x1024 :=
  Rect.unit (s := S512x1024) ![0, 128 * h.val] S512x128.size
    (fun a => by have := h.isLt; match a with | ⟨0, _⟩ => exact Nat.le_refl _ | ⟨1, _⟩ => show 128 * h.val + 128 ≤ 1024; omega)
/-- Slot `h` of a buffer of eight heads' keys or values. -/
abbrev bankR (h : Fin 8) : Rect S8x2048x128 :=
  Rect.unit (s := S8x2048x128) ![h.val, 0, 0] S1x2048x128.size
    (fun a => by have := h.isLt; match a with | ⟨0, _⟩ => show h.val + 1 ≤ 8; omega | ⟨1, _⟩ => exact Nat.le_refl _ | ⟨2, _⟩ => exact Nat.le_refl _)
/-- The whole of a matrix of eight heads. -/
abbrev allR : Rect S512x1024 := Rect.unit (s := S512x1024) ![0, 0] S512x1024.size inb_S512x1024_S512x1024_0_0

/-- The columns of head `h` of `q`. -/
def colOf (q : Vec F S512x1024 .bf16) (h : Fin 8) : Vec F S512x128 .bf16 := fun j => q ((colR h).emb j)

/-- The head a column belongs to, -/
def headOf (i : S512x1024.Idx) : Fin 8 := ⟨(i 1).val / 128, by have := idx2_lt1 i; omega⟩
/-- and its place there. -/
def inHead (i : S512x1024.Idx) : S512x128.Idx := ix2 (i 0) ⟨(i 1).val % 128, Nat.mod_lt _ (by decide)⟩

/-- Eight heads' columns side by side. -/
def sideBySide (H : Fin 8 → Vec F S512x128 .bf16) : Vec F S512x1024 .bf16 := fun i => H (headOf i) (inHead i)

theorem headOf_emb (h : Fin 8) (j : S512x128.Idx) : headOf ((colR h).emb j) = h := by
  refine Fin.ext ?_
  show (128 * h.val + 1 * (j 1).val) / 128 = h.val
  have := idx2_lt1 j; omega
theorem inHead_emb (h : Fin 8) (j : S512x128.Idx) : inHead ((colR h).emb j) = j := by
  refine funext fun a => Fin.ext ?_
  match a with
  | ⟨0, _⟩ => show 0 + 1 * (j 0).val = (j 0).val; omega
  | ⟨1, _⟩ => show (128 * h.val + 1 * (j 1).val) % 128 = (j 1).val; have := idx2_lt1 j; omega
theorem emb_inHead (i : S512x1024.Idx) : (colR (headOf i)).emb (inHead i) = i := by
  refine funext fun a => Fin.ext ?_
  match a with
  | ⟨0, _⟩ => show 0 + 1 * (i 0).val = (i 0).val; omega
  | ⟨1, _⟩ => show 128 * ((i 1).val / 128) + 1 * ((i 1).val % 128) = (i 1).val; omega

/-- A buffer written by pieces that agree with `G` and cover the shape reads as `G`. -/
theorem read_family {s : Shape} {e : EltTy} {sp : Space} (v : View sig .tc sp s e) (f : v.ty.Contents (Elt F)) {ι : Type} (R : ι → Rect s)
    (P : ∀ h, (R h).shape.Idx → Elt F e) (G : s.Idx → Elt F e) (L : List (View.Piece (Elt F) s e))
    (hG : ∀ h x, P h x = G ((R h).emb x)) (hL : ∀ p ∈ L, ∃ h, p = ⟨R h, P h⟩) (hc : ∀ y, ∃ h, ⟨R h, P h⟩ ∈ L ∧ ∃ x, (R h).emb x = y) :
    v.read (Elt F) (v.writes (Elt F) f L) = G := by
  funext y
  refine View.read_writes_apply_of_pieces v f G L ?_ y ?_
  · intro p hp x
    obtain ⟨h, rfl⟩ := hL p hp
    exact hG h x
  · obtain ⟨h, hm, x, rfl⟩ := hc y
    exact ⟨_, hm, (R h).idx_mem x⟩

/-- The eight column writes, the last on top. -/
abbrev cols (H : Fin 8 → Vec F S512x128 .bf16) : List (View.Piece (Elt F) S512x1024 .bf16) :=
  [⟨colR 7, H 7⟩, ⟨colR 6, H 6⟩, ⟨colR 5, H 5⟩, ⟨colR 4, H 4⟩, ⟨colR 3, H 3⟩, ⟨colR 2, H 2⟩, ⟨colR 1, H 1⟩, ⟨colR 0, H 0⟩]

/-- A matrix after its eight column writes reads as the heads side by side. -/
theorem read_cols {sp : Space} (v : View sig .tc sp S512x1024 .bf16) (f : v.ty.Contents (Elt F)) (H : Fin 8 → Vec F S512x128 .bf16) :
    v.read (Elt F) (v.writes (Elt F) f (cols H)) = sideBySide H := by
  refine read_family v f colR H (sideBySide H) (cols H) (fun h x => ?_) (fun p hp => ?_) (fun y => ⟨headOf y, ?_, inHead y, emb_inHead y⟩)
  · unfold sideBySide; rw [headOf_emb, inHead_emb]
  · simp only [cols, List.mem_cons, List.not_mem_nil, or_false] at hp
    rcases hp with h | h | h | h | h | h | h | h <;> exact ⟨_, h⟩
  · generalize headOf y = h
    fin_cases h <;> simp [cols]

/-- A load of the whole matrix after its eight column writes. -/
theorem readCov_cols {sp : Space} (v : View sig .tc sp S512x1024 .bf16) (H : Fin 8 → Vec F S512x128 .bf16) :
    v.readCov (cols H) allR.toLoadRect = sideBySide H :=
  (View.readAt_full v _ _).trans (read_cols v _ H)

/-- The eight heads' keys or values stacked. -/
def stacked (P : Fin 8 → Vec F S1x2048x128 .bf16) : Vec F S8x2048x128 .bf16 := fun i => P (i 0) (ix3 0 (i 1) (i 2))

/-- The eight writes of a buffer of heads' keys or values, the last on top. -/
abbrev banks (P : Fin 8 → Vec F S1x2048x128 .bf16) : List (View.Piece (Elt F) S8x2048x128 .bf16) :=
  [⟨bankR 7, P 7⟩, ⟨bankR 6, P 6⟩, ⟨bankR 5, P 5⟩, ⟨bankR 4, P 4⟩, ⟨bankR 3, P 3⟩, ⟨bankR 2, P 2⟩, ⟨bankR 1, P 1⟩, ⟨bankR 0, P 0⟩]

theorem stacked_emb (P : Fin 8 → Vec F S1x2048x128 .bf16) (h : Fin 8) (x : S1x2048x128.Idx) : stacked P ((bankR h).emb x) = P h x := by
  have e0 : ((bankR h).emb x) 0 = h := Fin.ext (by show h.val + 1 * (x 0).val = h.val; have : (x 0).val < 1 := (x 0).isLt; omega)
  unfold stacked
  rw [show ((bankR h).emb x 0 : Fin 8) = h from e0]
  refine congrArg (P h) (funext fun a => Fin.ext ?_)
  match a with
  | ⟨0, _⟩ => show 0 = (x 0).val; have : (x 0).val < 1 := (x 0).isLt; omega
  | ⟨1, _⟩ => show 0 + 1 * (x 1).val = (x 1).val; omega
  | ⟨2, _⟩ => show 0 + 1 * (x 2).val = (x 2).val; omega

/-- A buffer after its eight writes reads as the stack. -/
theorem read_banks {sp : Space} (v : View sig .tc sp S8x2048x128 .bf16) (f : v.ty.Contents (Elt F)) (P : Fin 8 → Vec F S1x2048x128 .bf16) :
    v.read (Elt F) (v.writes (Elt F) f (banks P)) = stacked P := by
  refine read_family v f bankR P (stacked P) (banks P) (fun h x => (stacked_emb P h x).symm) (fun p hp => ?_)
    (fun y => ⟨y 0, ?_, ix3 0 (y 1) (y 2), ?_⟩)
  · simp only [banks, List.mem_cons, List.not_mem_nil, or_false] at hp
    rcases hp with h | h | h | h | h | h | h | h <;> exact ⟨_, h⟩
  · generalize (y 0 : Fin 8) = h
    fin_cases h <;> simp [banks]
  · refine funext fun a => Fin.ext ?_
    match a with
    | ⟨0, _⟩ => show (y 0).val + 1 * 0 = (y 0).val; omega
    | ⟨1, _⟩ => show 0 + 1 * (y 1).val = (y 1).val; omega
    | ⟨2, _⟩ => show 0 + 1 * (y 2).val = (y 2).val; omega

/-- A load of one slot of a buffer that reads as a stack. -/
theorem readAt_bank {sp : Space} (v : View sig .tc sp S8x2048x128 .bf16) (f : v.ty.Contents (Elt F)) (P : Fin 8 → Vec F S1x2048x128 .bf16)
    (hf : v.read (Elt F) f = stacked P) (h : Fin 8) : v.readAt (Elt F) (bankR h).toLoadRect f = P h := by
  funext x
  show v.read (Elt F) f ((bankR h).emb x) = P h x
  rw [hf, stacked_emb]

/-- A load of a head's columns after the whole matrix was written. -/
theorem readCov_col {sp : Space} (v : View sig .tc sp S512x1024 .bf16) (q : Vec F S512x1024 .bf16) (L : List (View.Piece (Elt F) S512x1024 .bf16)) (h : Fin 8) :
    v.readCov (⟨allR, q⟩ :: L) (colR h).toLoadRect = colOf q h := by
  funext x
  show v.read (Elt F) (v.writes (Elt F) v.junk (⟨allR, q⟩ :: L)) ((colR h).emb x) = q ((colR h).emb x)
  exact congrFun (View.read_writes_full v _ _ q L) _

/-! ## A slot of a buffer, seen as a matrix -/

/-- A load of a slot right after a copy into the slot's matrix: the matrix, with the slot's leading axis. -/
theorem readAt_write_squeezed {s s' : Shape} {e : EltTy} {sp : Space} (M : Memref sig .tc sp s e) (R : Rect s) (hr : ∀ a, R.stride a = 1)
    (hq : R.shape.Squeezes s') (hc : s'.ShapeCasts R.shape) (g : M.view.ty.Contents (Elt F)) (D : s'.Idx → Elt F e) :
    M.view.readAt (Elt F) R.toLoadRect (((M.slice R hr).squeeze s' hq).view.write (Elt F) g D Finset.univ) = shapeCast R.shape D hc := by
  have h := (Memref.read_squeeze_slice (Val := Elt F) M R hr hq hc.symm (((M.slice R hr).squeeze s' hq).view.write (Elt F) g D Finset.univ)).symm.trans
    (View.read_write_univ _ _)
  have h' := congrArg (fun z => shapeCast R.shape z hc) h
  simp only [shapeCast_shapeCast] at h'
  exact h'

/-- Owning a matrix, opened and closed. -/
theorem owns_open (c : Dev nD) {s : Shape} {e : EltTy} {sp : Space} (m : Memref sig .tc sp s e) (q : PosShare TreeShare) (X : s.Idx → Elt F e) :
    (owns (c : Thread nD τ) m q X : sProp (MT nD τ sig Unit (Elt F) ℕ UU ℕ))
      ⊢ iprop(∃ f, ⌜m.view.read (Elt F) f = X⌝ ∗ (m.view.loc (c : Thread nD τ) ↦[m.view.set]{q} f)) := .rfl
theorem owns_close (c : Dev nD) {s : Shape} {e : EltTy} {sp : Space} (m : Memref sig .tc sp s e) (q : PosShare TreeShare) (X : s.Idx → Elt F e) (f)
    (h : m.view.read (Elt F) f = X) :
    (m.view.loc (c : Thread nD τ) ↦[m.view.set]{q} f)
      ⊢ (owns (c : Thread nD τ) m q X : sProp (MT nD τ sig Unit (Elt F) ℕ UU ℕ)) := by subst h; exact owns_intro _ _ _ _

/-- Owning a slot's matrix is holding the buffer's elements under the slot, at contents the matrix reads as. -/
theorem owns_sq (c : Dev nD) {s s' : Shape} {e : EltTy} {sp : Space} (M : Memref sig .tc sp s e) (R : Rect s) (hr : ∀ a, R.stride a = 1)
    (hq : R.shape.Squeezes s') (q : PosShare TreeShare) (X : s'.Idx → Elt F e) :
    (owns (c : Thread nD τ) ((M.slice R hr).squeeze s' hq) q X : sProp (MT nD τ sig Unit (Elt F) ℕ UU ℕ))
      ⊣⊢ iprop(∃ f, ⌜((M.slice R hr).squeeze s' hq).view.read (Elt F) f = X⌝ ∗ (M.view.loc (c : Thread nD τ) ↦[M.view.setOn R.set]{q} f)) := by
  have hset : ((M.slice R hr).squeeze s' hq).view.set = M.view.setOn R.set := (View.set_reshape _ _).trans (View.set_slice _ _)
  unfold owns
  rw [hset]

/-- Owning a slot's matrix is holding the buffer's elements under the slot, at a load that gives the matrix. -/
theorem owns_slot (c : Dev nD) {s s' : Shape} {e : EltTy} {sp : Space} (M : Memref sig .tc sp s e) (R : Rect s) (hr : ∀ a, R.stride a = 1)
    (hq : R.shape.Squeezes s') (hc : s'.ShapeCasts R.shape) (q : PosShare TreeShare) (X : s'.Idx → Elt F e) :
    (owns (c : Thread nD τ) ((M.slice R hr).squeeze s' hq) q X : sProp (MT nD τ sig Unit (Elt F) ℕ UU ℕ))
      ⊣⊢ iprop(∃ f, ⌜M.view.readAt (Elt F) R.toLoadRect f = shapeCast R.shape X hc⌝ ∗ (M.view.loc (c : Thread nD τ) ↦[M.view.setOn R.set]{q} f)) := by
  have hset : ((M.slice R hr).squeeze s' hq).view.set = M.view.setOn R.set := (View.set_reshape _ _).trans (View.set_slice _ _)
  have hrd (f : M.view.ty.Contents (Elt F)) : ((M.slice R hr).squeeze s' hq).view.read (Elt F) f = X ↔ M.view.readAt (Elt F) R.toLoadRect f = shapeCast R.shape X hc := by
    rw [Memref.read_squeeze_slice (Val := Elt F) M R hr hq hc.symm f]
    constructor
    · rintro rfl; rw [shapeCast_shapeCast]
    · intro h; rw [h, shapeCast_shapeCast]
  unfold owns
  rw [hset]
  constructor
  · iintro ⟨%f, %hf, H⟩; iexists f; isplitr; · ipureintro; exact (hrd f).1 hf
    iexact H
  · iintro ⟨%f, %hf, H⟩; iexists f; isplitr; · ipureintro; exact (hrd f).2 hf
    iexact H

/-! ## The eight places, written out -/

section Places
variable {sp : Space} (v : View sig .tc sp S512x1024 .bf16) (q : Vec F S512x1024 .bf16) (L : List (View.Piece (Elt F) S512x1024 .bf16))
  (b : View sig .tc sp S8x2048x128 .bf16)
theorem readCov_col0 : v.readCov (⟨Rect.unit (s := S512x1024) ![0, 0] S512x1024.size inb_S512x1024_S512x1024_0_0, q⟩ :: L)
    (Rect.unit (s := S512x1024) ![0, 0] S512x128.size inb_S512x1024_S512x128_0_0).toLoadRect = colOf q 0 := readCov_col v q L 0
theorem readAt_bank0 (f : b.ty.Contents (Elt F)) (P : Fin 8 → Vec F S1x2048x128 .bf16) (hf : b.read (Elt F) f = stacked P) :
    b.readAt (Elt F) (Rect.unit (s := S8x2048x128) ![0, 0, 0] S1x2048x128.size inb_S8x2048x128_S1x2048x128_0_0_0).toLoadRect f = P 0 := readAt_bank b f P hf 0
theorem readCov_col1 : v.readCov (⟨Rect.unit (s := S512x1024) ![0, 0] S512x1024.size inb_S512x1024_S512x1024_0_0, q⟩ :: L)
    (Rect.unit (s := S512x1024) ![0, 128] S512x128.size inb_S512x1024_S512x128_0_128).toLoadRect = colOf q 1 := readCov_col v q L 1
theorem readAt_bank1 (f : b.ty.Contents (Elt F)) (P : Fin 8 → Vec F S1x2048x128 .bf16) (hf : b.read (Elt F) f = stacked P) :
    b.readAt (Elt F) (Rect.unit (s := S8x2048x128) ![1, 0, 0] S1x2048x128.size inb_S8x2048x128_S1x2048x128_1_0_0).toLoadRect f = P 1 := readAt_bank b f P hf 1
theorem readCov_col2 : v.readCov (⟨Rect.unit (s := S512x1024) ![0, 0] S512x1024.size inb_S512x1024_S512x1024_0_0, q⟩ :: L)
    (Rect.unit (s := S512x1024) ![0, 256] S512x128.size inb_S512x1024_S512x128_0_256).toLoadRect = colOf q 2 := readCov_col v q L 2
theorem readAt_bank2 (f : b.ty.Contents (Elt F)) (P : Fin 8 → Vec F S1x2048x128 .bf16) (hf : b.read (Elt F) f = stacked P) :
    b.readAt (Elt F) (Rect.unit (s := S8x2048x128) ![2, 0, 0] S1x2048x128.size inb_S8x2048x128_S1x2048x128_2_0_0).toLoadRect f = P 2 := readAt_bank b f P hf 2
theorem readCov_col3 : v.readCov (⟨Rect.unit (s := S512x1024) ![0, 0] S512x1024.size inb_S512x1024_S512x1024_0_0, q⟩ :: L)
    (Rect.unit (s := S512x1024) ![0, 384] S512x128.size inb_S512x1024_S512x128_0_384).toLoadRect = colOf q 3 := readCov_col v q L 3
theorem readAt_bank3 (f : b.ty.Contents (Elt F)) (P : Fin 8 → Vec F S1x2048x128 .bf16) (hf : b.read (Elt F) f = stacked P) :
    b.readAt (Elt F) (Rect.unit (s := S8x2048x128) ![3, 0, 0] S1x2048x128.size inb_S8x2048x128_S1x2048x128_3_0_0).toLoadRect f = P 3 := readAt_bank b f P hf 3
theorem readCov_col4 : v.readCov (⟨Rect.unit (s := S512x1024) ![0, 0] S512x1024.size inb_S512x1024_S512x1024_0_0, q⟩ :: L)
    (Rect.unit (s := S512x1024) ![0, 512] S512x128.size inb_S512x1024_S512x128_0_512).toLoadRect = colOf q 4 := readCov_col v q L 4
theorem readAt_bank4 (f : b.ty.Contents (Elt F)) (P : Fin 8 → Vec F S1x2048x128 .bf16) (hf : b.read (Elt F) f = stacked P) :
    b.readAt (Elt F) (Rect.unit (s := S8x2048x128) ![4, 0, 0] S1x2048x128.size inb_S8x2048x128_S1x2048x128_4_0_0).toLoadRect f = P 4 := readAt_bank b f P hf 4
theorem readCov_col5 : v.readCov (⟨Rect.unit (s := S512x1024) ![0, 0] S512x1024.size inb_S512x1024_S512x1024_0_0, q⟩ :: L)
    (Rect.unit (s := S512x1024) ![0, 640] S512x128.size inb_S512x1024_S512x128_0_640).toLoadRect = colOf q 5 := readCov_col v q L 5
theorem readAt_bank5 (f : b.ty.Contents (Elt F)) (P : Fin 8 → Vec F S1x2048x128 .bf16) (hf : b.read (Elt F) f = stacked P) :
    b.readAt (Elt F) (Rect.unit (s := S8x2048x128) ![5, 0, 0] S1x2048x128.size inb_S8x2048x128_S1x2048x128_5_0_0).toLoadRect f = P 5 := readAt_bank b f P hf 5
theorem readCov_col6 : v.readCov (⟨Rect.unit (s := S512x1024) ![0, 0] S512x1024.size inb_S512x1024_S512x1024_0_0, q⟩ :: L)
    (Rect.unit (s := S512x1024) ![0, 768] S512x128.size inb_S512x1024_S512x128_0_768).toLoadRect = colOf q 6 := readCov_col v q L 6
theorem readAt_bank6 (f : b.ty.Contents (Elt F)) (P : Fin 8 → Vec F S1x2048x128 .bf16) (hf : b.read (Elt F) f = stacked P) :
    b.readAt (Elt F) (Rect.unit (s := S8x2048x128) ![6, 0, 0] S1x2048x128.size inb_S8x2048x128_S1x2048x128_6_0_0).toLoadRect f = P 6 := readAt_bank b f P hf 6
theorem readCov_col7 : v.readCov (⟨Rect.unit (s := S512x1024) ![0, 0] S512x1024.size inb_S512x1024_S512x1024_0_0, q⟩ :: L)
    (Rect.unit (s := S512x1024) ![0, 896] S512x128.size inb_S512x1024_S512x128_0_896).toLoadRect = colOf q 7 := readCov_col v q L 7
theorem readAt_bank7 (f : b.ty.Contents (Elt F)) (P : Fin 8 → Vec F S1x2048x128 .bf16) (hf : b.read (Elt F) f = stacked P) :
    b.readAt (Elt F) (Rect.unit (s := S8x2048x128) ![7, 0, 0] S1x2048x128.size inb_S8x2048x128_S1x2048x128_7_0_0).toLoadRect f = P 7 := readAt_bank b f P hf 7
end Places

/-! ## A head of the keys or the values, fetched -/

theorem off_inb (c : Dev nD) (h : Fin 8) : ∀ a, k0_off1 c (BitVec.ofNat 32 h.val) a + S2048x1x128.size a ≤ S2048x32x128.size a := by
  rw [k0_off1_eq c h]
  intro a
  have hc : c.val < 4 := c.isLt
  match a with
  | ⟨0, _⟩ => exact Nat.le_refl _
  | ⟨1, _⟩ => show 8 * c.val + h.val + 1 ≤ 32; omega
  | ⟨2, _⟩ => exact Nat.le_refl _

/-- What a copy of head `h` of a device's eight out of the keys or values `M` carries. -/
def fetched (c : Dev nD) (M : Memref sig .tc .hbm S1x2048x32x128 .f32) (f : M.view.ty.Contents (Elt F)) (h : Fin 8) : Vec F S2048x128 .f32 :=
  ((((M.slice (Rect.unit (s := S1x2048x32x128) ![0, 0, 0, 0] S1x2048x32x128.size inb_S1x2048x32x128_S1x2048x32x128_0_0_0_0) (fun _ => rfl)).squeeze
      S2048x32x128 squeezes_S1x2048x32x128_S2048x32x128).slice (Rect.unit (s := S2048x32x128) (k0_off1 c (BitVec.ofNat 32 h.val)) S2048x1x128.size (off_inb c h)) (fun _ => rfl)).squeeze
      S2048x128 squeezes_S2048x1x128_S2048x128).view.read (Elt F) f

/-! ## What a device computes -/

/-- The keys or values of one head as the products read them: cast, with a leading axis. -/
def kvOf (D : Vec F S2048x128 .f32) : Vec F S1x2048x128 .bf16 := k0_pay7 (shapeCast S1x2048x128 D shapeCasts_S2048x128_S1x2048x128)
/-- The attention of a block of activations `x`, at the scaled query weights `wq` and the heads' keys and values. -/
def attnOf (x : Vec F S512x1024 .bf16) (wq : Vec F S1024x1024 .bf16) (KK VV : Fin 8 → Vec F S1x2048x128 .bf16) : Vec F S512x1024 .bf16 :=
  sideBySide fun h => k0_pay8 (colOf (k0_pay38 x wq) h) (KK h) (VV h)
/-- A block of activations projected to the eight heads' queries. -/
theorem attnOf_eq (x : Vec F S512x1024 .bf16) (wq : Vec F S1024x1024 .bf16) (KK VV : Fin 8 → Vec F S1x2048x128 .bf16) :
    attnOf x wq KK VV = sideBySide fun h => k0_pay8 (colOf (k0_pay38 x wq) h) (KK h) (VV h) := rfl
/-- A block's partial product with a device's output weights, as it is sent on. -/
def partOf (a : Vec F S512x1024 .bf16) (wo : Vec F S1024x1024 .bf16) : Vec F S512x1024 .bf16 :=
  shapeCast S512x1024 (truncf .bf16 (k0_pay37 a wo) bitsLt_bf16_f32) shapeCasts_S512x1024_S512x1024
theorem pay52_eq (a : Vec F S512x1024 .bf16) (wo : Vec F S1024x1024 .bf16) :
    k0_pay52 a wo = shapeCast S1x512x1024 (partOf a wo) shapeCasts_S512x1024_S1x512x1024 := rfl

/-- Two partial products added as they are sent on. -/
def sumOf (a b : Vec F S512x1024 .bf16) : Vec F S512x1024 .bf16 :=
  shapeCast S512x1024 (k0_pay77 (shapeCast S1x512x1024 a shapeCasts_S512x1024_S1x512x1024) (shapeCast S1x512x1024 b shapeCasts_S512x1024_S1x512x1024))
    shapeCasts_S1x512x1024_S512x1024
theorem sumOf_cast (a b : Vec F S512x1024 .bf16) :
    k0_pay77 (shapeCast S1x512x1024 a shapeCasts_S512x1024_S1x512x1024) (shapeCast S1x512x1024 b shapeCasts_S512x1024_S1x512x1024)
      = shapeCast S1x512x1024 (sumOf a b) shapeCasts_S512x1024_S1x512x1024 := by
  unfold sumOf
  rw [shapeCast_shapeCast]

/-! ## Rows of a block -/

theorem rows_inb (k : Fin 4) : ∀ a, (![128 * k.val, 0] : Fin 2 → ℕ) a + S128x1024.size a ≤ S512x1024.size a := by
  revert k; decide
theorem slotRows_inb (k : Fin 4) : ∀ a, (![1, 128 * k.val, 0] : Fin 3 → ℕ) a + S1x128x1024.size a ≤ S3x512x1024.size a := by
  revert k; decide
/-- The rows of a chunk. -/
abbrev rowR (k : Fin 4) : Rect S512x1024 := Rect.unit (s := S512x1024) ![128 * k.val, 0] S128x1024.size (rows_inb k)
/-- The rows of a chunk in the middle slot. -/
abbrev slotRowR (k : Fin 4) : Rect S3x512x1024 := Rect.unit (s := S3x512x1024) ![1, 128 * k.val, 0] S1x128x1024.size (slotRows_inb k)
/-- A chunk's rows of a matrix. -/
def rowsOf {e : EltTy} (X : Vec F S512x1024 e) (k : Fin 4) : Vec F S128x1024 e := fun x => X ((rowR k).emb x)
/-- A chunk of what is sent last: the block's own product with the rows received added. -/
def lastOf (a : Vec F S512x1024 .bf16) (wo : Vec F S1024x1024 .bf16) (X : Vec F S512x1024 .bf16) (k : Fin 4) : Vec F S128x1024 .bf16 :=
  k0_pay83 (rowsOf a k) wo (shapeCast S1x128x1024 (rowsOf X k) shapeCasts_S128x1024_S1x128x1024)
/-- A load of a chunk's rows of a slot. -/
theorem readAt_slotRow {sp : Space} (v : View sig .tc sp S3x512x1024 .bf16) (f : v.ty.Contents (Elt F)) (X : Vec F S512x1024 .bf16)
    (hf : v.readAt (Elt F) (Rect.unit (s := S3x512x1024) ![1, 0, 0] S1x512x1024.size inb_S3x512x1024_S1x512x1024_1_0_0).toLoadRect f
      = shapeCast S1x512x1024 X shapeCasts_S512x1024_S1x512x1024) (k : Fin 4) :
    v.readAt (Elt F) (slotRowR k).toLoadRect f = shapeCast S1x128x1024 (rowsOf X k) shapeCasts_S128x1024_S1x128x1024 := by
  funext x
  obtain ⟨p, q, rfl⟩ : ∃ (p : Fin 128) (q : Fin 1024), x = ix3 (0 : Fin 1) p q :=
    ⟨x 1, x 2, (eq_ix3 (n0 := 1) (n1 := 128) (n2 := 1024) x).trans (congrArg (fun z : Fin 1 => ix3 z (x 1) (x 2)) (Subsingleton.elim (α := Fin 1) (x 0) 0))⟩
  have hp : 128 * k.val + p.val < 512 := by omega
  have h := congrFun hf (ix3 (0 : Fin 1) (⟨128 * k.val + p.val, hp⟩ : Fin 512) q)
  rw [shapeCast_ab_1ab_apply] at h
  rw [shapeCast_ab_1ab_apply]
  refine Eq.trans ?_ (h.trans ?_)
  · show v.read (Elt F) f _ = v.read (Elt F) f _
    refine congrArg _ (funext fun a => Fin.ext ?_)
    fin_cases a <;> simp [Rect.emb, Rect.unit, ix3]
  · unfold rowsOf
    refine congrArg X (funext fun a => Fin.ext ?_)
    fin_cases a <;> simp [Rect.emb, Rect.unit, ix2]
/-- A load of a chunk's rows of a matrix after its column writes. -/
theorem readCov_row {sp : Space} (v : View sig .tc sp S512x1024 .bf16) (H : Fin 8 → Vec F S512x128 .bf16) (k : Fin 4) :
    v.readCov (cols H) (rowR k).toLoadRect = rowsOf (sideBySide H) k := by
  funext x
  show v.read (Elt F) (v.writes (Elt F) v.junk (cols H)) ((rowR k).emb x) = _
  rw [read_cols]; rfl

/-- Four chunks of rows, one under the other. -/
def underEach {e : EltTy} (P : Fin 4 → Vec F S128x1024 e) : Vec F S512x1024 e := fun i =>
  P ⟨(i 0).val / 128, by have h : (i 0).val < 512 := (i 0).isLt; omega⟩ (ix2 ⟨(i 0).val % 128, Nat.mod_lt _ (by decide)⟩ (i 1))
theorem underEach_emb {e : EltTy} (P : Fin 4 → Vec F S128x1024 e) (k : Fin 4) (x : (rowR k).shape.Idx) : underEach P ((rowR k).emb x) = P k x := by
  have h0 : (((rowR k).emb x) 0).val = 128 * k.val + (x 0).val := by simp [Rect.emb, Rect.unit]
  have h1 : (((rowR k).emb x) 1).val = (x 1).val := by simp [Rect.emb, Rect.unit]
  have hx : (x 0).val < 128 := (x 0).isLt
  unfold underEach
  congr 1
  · refine Fin.ext ?_
    show (((rowR k).emb x) 0).val / 128 = k.val
    omega
  · funext a
    refine Fin.ext ?_
    match a with
    | ⟨0, _⟩ => show (((rowR k).emb x) 0).val % 128 = (x 0).val; omega
    | ⟨1, _⟩ => exact h1
/-- The four row stores, the last on top. -/
abbrev rowsL {e : EltTy} (P : Fin 4 → Vec F S128x1024 e) : List (View.Piece (Elt F) S512x1024 e) :=
  [⟨rowR 3, P 3⟩, ⟨rowR 2, P 2⟩, ⟨rowR 1, P 1⟩, ⟨rowR 0, P 0⟩]
/-- A matrix after its four row stores reads as the chunks one under the other. -/
theorem read_rows {sp : Space} {e : EltTy} (v : View sig .tc sp S512x1024 e) (f : v.ty.Contents (Elt F)) (P : Fin 4 → Vec F S128x1024 e) :
    v.read (Elt F) (v.writes (Elt F) f (rowsL P)) = underEach P := by
  refine read_family v f rowR P (underEach P) (rowsL P) (fun k x => (underEach_emb P k x).symm) (fun p hp => ?_) (fun y => ?_)
  · simp only [rowsL, List.mem_cons, List.not_mem_nil, or_false] at hp
    rcases hp with h | h | h | h <;> exact ⟨_, h⟩
  · have hy : (y 0).val < 512 := (y 0).isLt
    refine ⟨⟨(y 0).val / 128, by omega⟩, ?_, ix2 ⟨(y 0).val % 128, Nat.mod_lt _ (by decide)⟩ (y 1), ?_⟩
    · generalize (⟨(y 0).val / 128, _⟩ : Fin 4) = k
      revert k
      intro k
      match k with
      | ⟨0, _⟩ | ⟨1, _⟩ | ⟨2, _⟩ | ⟨3, _⟩ => simp [rowsL]
    · funext a
      refine Fin.ext ?_
      match a with
      | ⟨0, _⟩ => simp [Rect.emb, Rect.unit, ix2]; omega
      | ⟨1, _⟩ => simp [Rect.emb, Rect.unit, ix2]

/-- The result: the device's own product with the rows received last added. -/
def resultOf (own : Vec F S512x1024 .f32) (Y : Fin 4 → Vec F S128x1024 .bf16) : Vec F S512x1024 .f32 :=
  underEach fun k => k0_pay88 (rowsOf own k) (shapeCast S1x128x1024 (Y k) shapeCasts_S128x1024_S1x128x1024)

end Cert.Ring
-- ==== Proof.Runs.lean ====
/-
# The stretches at the launch's own buffers

Each stretch of the body is run at the buffers and semaphores of the launch; short names for them and for the shapes of the
holdings the stretches share.
-/
module

public import proofs.«01_k».proof.Proof.Protocol
public import proofs.«01_k».proof.Proof.Cuts
public import proofs.«01_k».proof.Proof.Values

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A device's program. -/
abbrev DProg (F : FTy → Type) [FloatOps F] (R : Type) : Type 1 := Prog (TpuEff nD τ sig (Elt F) Λ₀ .tc) R

/-- The device's own block of queries. -/
abbrev run1 {R : Type} (κ : Dev nD → BitVec 32 → DProg F R) : DProg F R :=
  mid1 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 κ
/-- The block of the device before. -/
abbrev run2 {R : Type} (d0 : Dev nD) (v7 : BitVec 32) (κ : DProg F R) : DProg F R :=
  mid2 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v7 κ
/-- The block of the device two before. -/
abbrev run3 {R : Type} (d0 : Dev nD) (v7 : BitVec 32) (κ : Vec F S512x1024 .bf16 → Vec F S1024x1024 .bf16 → FVec F S512x1024 .f32 → DProg F R) : DProg F R :=
  mid3 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v7 κ
/-- The block of the device three before, up to its attention. -/
abbrev run4 {R : Type} (d0 : Dev nD) (v7 : BitVec 32) (v963 : Vec F S512x1024 .bf16) (v964 : Vec F S1024x1024 .bf16) (cst : FVec F S512x1024 .f32) (κ : FVec F S128x1024 .bf16 → DProg F R) : DProg F R :=
  mid4 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v7 v963 v964 cst κ
/-- Its partial sums, their exchange, and the last waits. -/
abbrev run5 {R : Type} (d0 : Dev nD) (v7 : BitVec 32) (v1158 : FVec F S128x1024 .bf16) (κ : DProg F R) : DProg F R :=
  mid5 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v7 v1158 κ

/-- A whole buffer, held. -/
abbrev hold (c : Dev nD) (q : PosShare TreeShare) (b : Ref sig .tc) (f : b.ty.Contents (Elt F)) : sProp 𝕄 :=
  (Memref.whole b).view.loc (c : Thread nD τ) ↦[(Memref.whole b).view.set]{q} f
/-- The part of a buffer under a rectangle, held. -/
abbrev part (c : Dev nD) {s : Shape} {e : EltTy} (M : Memref sig .tc .vmem s e) (R : Rect s) (q : PosShare TreeShare) (f : M.view.ty.Contents (Elt F)) : sProp 𝕄 :=
  M.view.loc (c : Thread nD τ) ↦[M.view.setOn R.set]{q} f

/-- The device's block of the activations, as a matrix, -/
abbrev xin : Memref sig .tc .vmem S512x1024 .f32 :=
  ((Memref.whole cc0_stg0_0 : Memref sig .tc .vmem S1x512x1024 .f32).slice (Rect.unit (s := S1x512x1024) ![0, 0, 0] S1x512x1024.size inb_S1x512x1024_S1x512x1024_0_0_0) (fun _ => rfl)).squeeze S512x1024 squeezes_S1x512x1024_S512x1024
/-- and of the result. -/
abbrev outM : Memref sig .tc .vmem S512x1024 .f32 :=
  ((Memref.whole cc0_stg3_0 : Memref sig .tc .vmem S1x512x1024 .f32).slice (Rect.unit (s := S1x512x1024) ![0, 0, 0] S1x512x1024.size inb_S1x512x1024_S1x512x1024_0_0_0) (fun _ => rfl)).squeeze S512x1024 squeezes_S1x512x1024_S512x1024

/-- The buffers the keys' heads, -/
abbrev kbM : Memref sig .tc .vmem S2x2048x128 .f32 := Memref.whole cc0_scratch8
/-- and the values' heads, are fetched into; -/
abbrev vbM : Memref sig .tc .vmem S2x2048x128 .f32 := Memref.whole cc0_scratch9
/-- their first slot, -/
abbrev rk0 : Rect S2x2048x128 := Rect.unit (s := S2x2048x128) ![0, 0, 0] S1x2048x128.size inb_S2x2048x128_S1x2048x128_0_0_0
/-- and their second. -/
abbrev rk1 : Rect S2x2048x128 := Rect.unit (s := S2x2048x128) ![1, 0, 0] S1x2048x128.size inb_S2x2048x128_S1x2048x128_1_0_0

/-- The result's block after a store of `w` over all of it. -/
theorem read_out (fo : outM.view.ty.Contents (Elt F)) (w : Vec F S512x1024 .f32) (h0) (hs) (hw)
    (hR : ((Rect.unit (s := S512x1024) ![0, 0] S512x1024.size inb_S512x1024_S512x1024_0_0).consLift ![1, 512, 1024] h0 hs).shape.numel = (Rect.unit (s := S512x1024) ![0, 0] S512x1024.size inb_S512x1024_S512x1024_0_0).shape.numel) :
    outM.view.read (Elt F) ((Memref.whole cc0_stg3_0).view.writes (Elt F) fo
      [⟨(Rect.unit (s := S1x512x1024) ![0, 0, 0] S1x512x1024.size inb_S1x512x1024_S1x512x1024_0_0_0).within
          ((Rect.unit (s := S512x1024) ![0, 0] S512x1024.size inb_S512x1024_S512x1024_0_0).consLift ![1, 512, 1024] h0 hs) hw,
        Rect.payAlong hR w⟩]) = w := by
  refine (congrArg (outM.view.read (Elt F)) ?_).trans (View.read_writes_full outM.view fo inb_S512x1024_S512x1024_0_0 w [])
  exact (View.write_slice_reshape_slice (Val := Elt F) (Memref.whole cc0_stg3_0).view
    (Rect.unit (s := S1x512x1024) ![0, 0, 0] S1x512x1024.size inb_S1x512x1024_S1x512x1024_0_0_0) (fun _ => rfl) _ _ _ hR
    (Rect.liftsTo_consLift (Rect.unit (s := S512x1024) ![0, 0] S512x1024.size inb_S512x1024_S512x1024_0_0) ![1, 512, 1024] h0 hs) fo w).symm

/-- So the result's buffer is held at contents that read as what was stored. -/
theorem out_intro (c : Dev nD) (fo : outM.view.ty.Contents (Elt F)) (w w' : Vec F S512x1024 .f32) (hww : w = w') (h0) (hs) (hw)
    (hR : ((Rect.unit (s := S512x1024) ![0, 0] S512x1024.size inb_S512x1024_S512x1024_0_0).consLift ![1, 512, 1024] h0 hs).shape.numel = (Rect.unit (s := S512x1024) ![0, 0] S512x1024.size inb_S512x1024_S512x1024_0_0).shape.numel) :
    hold (F := F) c fullShare cc0_stg3_0 ((Memref.whole cc0_stg3_0).view.writes (Elt F) fo
      [⟨(Rect.unit (s := S1x512x1024) ![0, 0, 0] S1x512x1024.size inb_S1x512x1024_S1x512x1024_0_0_0).within
          ((Rect.unit (s := S512x1024) ![0, 0] S512x1024.size inb_S512x1024_S512x1024_0_0).consLift ![1, 512, 1024] h0 hs) hw,
        Rect.payAlong hR w⟩]) ⊢ iprop(∃ g, ⌜outM.view.read (Elt F) g = w'⌝ ∗ hold c fullShare cc0_stg3_0 g) := by
  iintro H
  iexists (Memref.whole cc0_stg3_0).view.writes (Elt F) fo
      [⟨(Rect.unit (s := S1x512x1024) ![0, 0, 0] S1x512x1024.size inb_S1x512x1024_S1x512x1024_0_0_0).within
          ((Rect.unit (s := S512x1024) ![0, 0] S512x1024.size inb_S512x1024_S512x1024_0_0).consLift ![1, 512, 1024] h0 hs) hw,
        Rect.payAlong hR w⟩]
  isplitr; · ipureintro; exact (read_out fo w h0 hs hw hR).trans hww
  iexact H

/-- Owning a whole buffer's contents, opened. -/
theorem whole_open (c : Dev nD) (b : Ref sig .tc) (q : PosShare TreeShare) (X : b.ty.shape.Idx → Elt F b.ty.elt) :
    (owns (c : Thread nD τ) (Memref.whole b) q X : sProp 𝕄)
      ⊢ iprop(∃ f : b.ty.Contents (Elt F), ⌜(Memref.whole b).view.read (Elt F) f = X⌝ ∗ hold c q b f) := .rfl

theorem whole_close (c : Dev nD) (b : Ref sig .tc) (q : PosShare TreeShare) (X : b.ty.shape.Idx → Elt F b.ty.elt) (f : b.ty.Contents (Elt F))
    (h : (Memref.whole b).view.read (Elt F) f = X) : hold c q b f ⊢ (owns (c : Thread nD τ) (Memref.whole b) q X : sProp 𝕄) := by
  subst h; exact owns_intro _ _ _ _

/-- A slot's matrix, opened. -/
theorem slot_open (c : Dev nD) {s s' : Shape} {e : EltTy} (M : Memref sig .tc .vmem s e) (R : Rect s) (hr : ∀ a, R.stride a = 1)
    (hq : R.shape.Squeezes s') (hc : s'.ShapeCasts R.shape) (q : PosShare TreeShare) (X : s'.Idx → Elt F e) :
    (owns (c : Thread nD τ) ((M.slice R hr).squeeze s' hq) q X : sProp 𝕄)
      ⊢ iprop(∃ f : M.view.ty.Contents (Elt F), ⌜M.view.readAt (Elt F) R.toLoadRect f = shapeCast R.shape X hc⌝ ∗ part c M R q f) :=
  (owns_slot c M R hr hq hc q X).1

/-- A slot just stored to, as its matrix. -/
theorem slot_intro (c : Dev nD) {s s' : Shape} {e : EltTy} (M : Memref sig .tc .vmem s e) (R : Rect s) (hr : ∀ a, R.stride a = 1)
    (hq : R.shape.Squeezes s') (hc : s'.ShapeCasts R.shape) (q : PosShare TreeShare) (X : s'.Idx → Elt F e) (f) (w : R.shape.Idx → Elt F e) (L)
    (h : w = shapeCast R.shape X hc) :
    part c M R q (M.view.writes (Elt F) f (⟨R, w⟩ :: L)) ⊢ (owns (c : Thread nD τ) ((M.slice R hr).squeeze s' hq) q X : sProp 𝕄) := by
  subst h
  iintro H
  iapply (owns_slot c M R hr hq hc q X).2
  iexists M.view.writes (Elt F) f (⟨R, shapeCast R.shape X hc⟩ :: L)
  isplitr
  · ipureintro
    exact (View.readAt_writes_of_cover M.view _ _ _ fun j => ⟨_, List.mem_cons_self .., R.idx_mem j⟩).trans (View.readCov_cons_toLoadRect _ _ _ _)
  iexact H

/-- The attention buffer after its eight column stores. -/
theorem cols_intro (c : Dev nD) (f : cc0_scratch7.ty.Contents (Elt F)) (L) (H : Fin 8 → Vec F S512x128 .bf16) (h : L = cols H) :
    hold c fullShare cc0_scratch7 ((Memref.whole cc0_scratch7).view.writes (Elt F) f L)
      ⊢ (owns (c : Thread nD τ) (Memref.whole cc0_scratch7) fullShare (sideBySide H) : sProp 𝕄) := by
  subst h
  exact whole_close c cc0_scratch7 fullShare _ _ (read_cols (Memref.whole cc0_scratch7).view f H)

/-- The three slots of a three-slot buffer, -/
abbrev rs0 : Rect S3x512x1024 := Rect.unit (s := S3x512x1024) ![0, 0, 0] S1x512x1024.size inb_S3x512x1024_S1x512x1024_0_0_0
abbrev rs1 : Rect S3x512x1024 := Rect.unit (s := S3x512x1024) ![1, 0, 0] S1x512x1024.size inb_S3x512x1024_S1x512x1024_1_0_0
abbrev rs2 : Rect S3x512x1024 := Rect.unit (s := S3x512x1024) ![2, 0, 0] S1x512x1024.size inb_S3x512x1024_S1x512x1024_2_0_0
/-- and the four row chunks of the last. -/
abbrev rc0 : Rect S3x512x1024 := Rect.unit (s := S3x512x1024) ![2, 0, 0] S1x128x1024.size inb_S3x512x1024_S1x128x1024_2_0_0
abbrev rc1 : Rect S3x512x1024 := Rect.unit (s := S3x512x1024) ![2, 128, 0] S1x128x1024.size inb_S3x512x1024_S1x128x1024_2_128_0
abbrev rc2 : Rect S3x512x1024 := Rect.unit (s := S3x512x1024) ![2, 256, 0] S1x128x1024.size inb_S3x512x1024_S1x128x1024_2_256_0
abbrev rc3 : Rect S3x512x1024 := Rect.unit (s := S3x512x1024) ![2, 384, 0] S1x128x1024.size inb_S3x512x1024_S1x128x1024_2_384_0

end Cert.Ring
-- ==== Proof.Pieces.lean ====
/-
# Buffers in pieces

A buffer of three slots is the slots held one by one, the last one also as its four chunks of rows; the two fetching buffers are
their two slots; the keys and the values are read through tokens of their share.
-/
module

public import proofs.«01_k».proof.Proof.Runs

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- A buffer cut along a family of disjoint rectangles that cover it, -/
theorem cut_parts (c : Dev nD) {s : Shape} {e : EltTy} (M : Memref sig .tc .vmem s e) {n : ℕ} (R : Fin n → Rect s)
    (hd : ∀ t t', t ≠ t' → Disjoint (R t).set (R t').set) (hc : ∀ i : s.Idx, ∃ t, i ∈ (R t).set) (f : M.view.ty.Contents (Elt F)) :
    (M.view.loc (c : Thread nD τ) ↦[M.view.set]{fullShare} f : sProp 𝕄) = bigSep Finset.univ fun t => part c M (R t) fullShare f := by
  have hs : M.view.set = Finset.univ.biUnion fun t => M.view.setOn (R t).set := by
    ext i
    simp only [Finset.mem_biUnion, Finset.mem_univ, true_and]
    constructor
    · intro hi
      obtain ⟨x, -, rfl⟩ := Finset.mem_map.mp hi
      obtain ⟨t, ht⟩ := hc x
      exact ⟨t, Finset.mem_map_of_mem _ ht⟩
    · rintro ⟨t, ht⟩
      exact M.view.setOn_subset_set _ ht
  rw [hs]
  exact pointsTo_biUnion Finset.univ _ fun t _ t' _ h => M.view.disjoint_setOn (hd t t' h)
omit [FloatOps F] in
theorem join_family {ℓ : Loc nD τ sig} {n : ℕ} {S : Finset (Idx ℓ)} (K : Fin (n + 1) → Finset (Idx ℓ)) (hS : ∀ i, i ∈ S ↔ ∃ t, i ∈ K t)
    (hd : ∀ t t', t ≠ t' → Disjoint (K t) (K t')) (fs : Fin (n + 1) → Buf (Elt F) ℓ) :
    (bigSep Finset.univ fun t => (ℓ ↦[K t]{fullShare} fs t : sProp 𝕄)) ⊢ iprop(∃ f, ℓ ↦[S]{fullShare} f) := by
  have hS : S = Finset.univ.biUnion K := by
    ext i; simp only [Finset.mem_biUnion, Finset.mem_univ, true_and]; exact hS i
  subst hS
  refine (pointsTo_biUnion_join Finset.univ K fs (fs 0) fun t _ t' _ h => hd t t' h).trans ?_
  iintro ⟨%g, -, H⟩
  iexists g
  iexact H
omit [FloatOps F] in
/-- and put together again. -/
theorem join_parts (c : Dev nD) {s : Shape} {e : EltTy} (M : Memref sig .tc .vmem s e) {n : ℕ} (R : Fin (n + 1) → Rect s)
    (hd : ∀ t t', t ≠ t' → Disjoint (R t).set (R t').set) (hc : ∀ i : s.Idx, ∃ t, i ∈ (R t).set) (fs : Fin (n + 1) → M.view.ty.Contents (Elt F)) :
    (bigSep Finset.univ fun t => (part c M (R t) fullShare (fs t) : sProp 𝕄)) ⊢ iprop(∃ f : M.view.ty.Contents (Elt F), M.view.loc (c : Thread nD τ) ↦[M.view.set]{fullShare} f) := by
  refine join_family (F := F) (ℓ := M.view.loc (c : Thread nD τ)) (S := M.view.set) (fun t => M.view.setOn (R t).set) ?_ ?_ fs
  · intro i
    constructor
    · intro hi
      obtain ⟨x, -, rfl⟩ := Finset.mem_map.mp hi
      obtain ⟨t, ht⟩ := hc x
      exact ⟨t, Finset.mem_map_of_mem _ ht⟩
    · rintro ⟨t, ht⟩
      exact M.view.setOn_subset_set _ ht
  · exact fun t t' h => M.view.disjoint_setOn (hd t t' h)

/-- The three slots, -/
abbrev slots : Fin 3 → Rect S3x512x1024 := ![rs0, rs1, rs2]
/-- two slots and the chunks of the third, -/
abbrev cuts : Fin 6 → Rect S3x512x1024 := ![rs0, rs1, rc0, rc1, rc2, rc3]
/-- and the two slots of a fetching buffer. -/
abbrev pair : Fin 2 → Rect S2x2048x128 := ![rk0, rk1]

theorem slots_disjoint : ∀ t t', t ≠ t' → Disjoint (slots t).set (slots t').set := by
  intro t t' h
  refine LoadRect.disjoint_of_separated (slots t).toLoadRect (slots t').toLoadRect 0 ?_
  revert h; revert t t'; decide
theorem slots_cover (i : S3x512x1024.Idx) : ∃ t, i ∈ (slots t).set := by
  have h0 : (i 0 : ℕ) < 3 := (i 0).2
  have h1 : (i 1 : ℕ) < 512 := (i 1).2
  have h2 : (i 2 : ℕ) < 1024 := (i 2).2
  have mem : ∀ n (R : Rect S3x512x1024), R = slots n → (i 0 : ℕ) = n → i ∈ R.set := by
    rintro n R rfl hn
    rw [LoadRect.mem_set]
    intro a
    fin_cases n <;> fin_cases a
    all_goals first
      | exact ⟨0, by decide, by simpa using hn⟩
      | exact ⟨(i 1 : ℕ), h1, by simp⟩
      | exact ⟨(i 2 : ℕ), h2, by simp⟩
  rcases (by omega : (i 0 : ℕ) = 0 ∨ (i 0 : ℕ) = 1 ∨ (i 0 : ℕ) = 2) with h | h | h
  · exact ⟨0, mem 0 _ rfl h⟩
  · exact ⟨1, mem 1 _ rfl h⟩
  · exact ⟨2, mem 2 _ rfl h⟩
theorem pair_disjoint : ∀ t t', t ≠ t' → Disjoint (pair t).set (pair t').set := by
  intro t t' h
  refine LoadRect.disjoint_of_separated (pair t).toLoadRect (pair t').toLoadRect 0 ?_
  revert h; revert t t'; decide
theorem pair_cover (i : S2x2048x128.Idx) : ∃ t, i ∈ (pair t).set := by
  have h0 : (i 0 : ℕ) < 2 := (i 0).2
  have h1 : (i 1 : ℕ) < 2048 := (i 1).2
  have h2 : (i 2 : ℕ) < 128 := (i 2).2
  have mem : ∀ n (R : Rect S2x2048x128), R = pair n → (i 0 : ℕ) = n → i ∈ R.set := by
    rintro n R rfl hn
    rw [LoadRect.mem_set]
    intro a
    fin_cases n <;> fin_cases a
    all_goals first
      | exact ⟨0, by decide, by simpa using hn⟩
      | exact ⟨(i 1 : ℕ), h1, by simp⟩
      | exact ⟨(i 2 : ℕ), h2, by simp⟩
  rcases (by omega : (i 0 : ℕ) = 0 ∨ (i 0 : ℕ) = 1) with h | h
  · exact ⟨0, mem 0 _ rfl h⟩
  · exact ⟨1, mem 1 _ rfl h⟩
theorem cuts_disjoint : ∀ t t', t ≠ t' → Disjoint (cuts t).set (cuts t').set := by
  intro t t' h
  by_cases h0 : (cuts t).off 0 = (cuts t').off 0
  · refine LoadRect.disjoint_of_separated (cuts t).toLoadRect (cuts t').toLoadRect 1 ?_
    revert h0; revert h; revert t t'; decide
  · refine LoadRect.disjoint_of_separated (cuts t).toLoadRect (cuts t').toLoadRect 0 ?_
    revert h0; revert h; revert t t'; decide
theorem cuts_cover (i : S3x512x1024.Idx) : ∃ t, i ∈ (cuts t).set := by
  have h0 : (i 0 : ℕ) < 3 := (i 0).2
  have h1 : (i 1 : ℕ) < 512 := (i 1).2
  have h2 : (i 2 : ℕ) < 1024 := (i 2).2
  have slot : ∀ n : Fin 6, n.val < 2 → (i 0 : ℕ) = n → i ∈ (cuts n).set := by
    intro n h hn
    rw [LoadRect.mem_set]
    intro a
    fin_cases n <;> first | (exfalso; revert h; decide) | skip
    all_goals fin_cases a
    all_goals first
      | exact ⟨0, by decide, by simpa using hn⟩
      | exact ⟨(i 1 : ℕ), h1, by simp⟩
      | exact ⟨(i 2 : ℕ), h2, by simp⟩
  have chunk : ∀ n : Fin 6, 2 ≤ n.val → (i 0 : ℕ) = 2 → 128 * (n.val - 2) ≤ (i 1 : ℕ) → (i 1 : ℕ) < 128 * (n.val - 2) + 128 → i ∈ (cuts n).set := by
    intro n h hn ha hb
    rw [LoadRect.mem_set]
    intro a
    fin_cases n <;> first | (exfalso; revert h; decide) | skip
    all_goals fin_cases a
    all_goals first
      | exact ⟨0, by decide, by simpa using hn⟩
      | exact ⟨(i 2 : ℕ), h2, by simp⟩
      | (simp at ha hb; exact ⟨(i 1 : ℕ), by simpa using hb, by simp⟩)
      | (simp at ha hb; exact ⟨(i 1 : ℕ) - 128, by simp; omega, by simp; omega⟩)
      | (simp at ha hb; exact ⟨(i 1 : ℕ) - 256, by simp; omega, by simp; omega⟩)
      | (simp at ha hb; exact ⟨(i 1 : ℕ) - 384, by simp; omega, by simp; omega⟩)
  rcases (by omega : (i 0 : ℕ) = 0 ∨ (i 0 : ℕ) = 1 ∨ (i 0 : ℕ) = 2) with h | h | h
  · exact ⟨0, slot 0 (by decide) h⟩
  · exact ⟨1, slot 1 (by decide) h⟩
  · rcases (by omega : (i 1 : ℕ) < 128 ∨ (128 ≤ (i 1 : ℕ) ∧ (i 1 : ℕ) < 256) ∨ (256 ≤ (i 1 : ℕ) ∧ (i 1 : ℕ) < 384) ∨ (384 ≤ (i 1 : ℕ))) with g | g | g | g
    · exact ⟨2, chunk 2 (by decide) h (by simp) (by simpa using g)⟩
    · exact ⟨3, chunk 3 (by decide) h (by simp; omega) (by simp; omega)⟩
    · exact ⟨4, chunk 4 (by decide) h (by simp; omega) (by simp; omega)⟩
    · exact ⟨5, chunk 5 (by decide) h (by simp; omega) (by simp; omega)⟩

/-- A rectangle of a buffer, held at some contents. -/
abbrev loose (c : Dev nD) {s : Shape} {e : EltTy} (M : Memref sig .tc .vmem s e) (R : Rect s) : sProp 𝕄 :=
  iprop(∃ f : M.view.ty.Contents (Elt F), part c M R fullShare f)

omit [FloatOps F] in
theorem cut_slots (c : Dev nD) (M : Memref sig .tc .vmem S3x512x1024 .bf16) (f : M.view.ty.Contents (Elt F)) :
    (M.view.loc (c : Thread nD τ) ↦[M.view.set]{fullShare} f : sProp 𝕄) ⊢ iprop(part c M rs0 fullShare f ∗ part c M rs1 fullShare f ∗ part c M rs2 fullShare f) := by
  rw [cut_parts c M slots slots_disjoint slots_cover f, bigSep_eq_bigSepL_of_eq [0, 1, 2] (by decide) (by decide)]
  exact .rfl

omit [FloatOps F] in
theorem join_slots (c : Dev nD) (M : Memref sig .tc .vmem S3x512x1024 .bf16) :
    iprop(loose (F := F) c M rs0 ∗ loose (F := F) c M rs1 ∗ loose (F := F) c M rs2) ⊢ (iprop(∃ f : M.view.ty.Contents (Elt F), M.view.loc (c : Thread nD τ) ↦[M.view.set]{fullShare} f) : sProp 𝕄) := by
  iintro ⟨⟨%f0, P0⟩, ⟨%f1, P1⟩, ⟨%f2, P2⟩⟩
  have key := join_parts c M slots slots_disjoint slots_cover ![f0, f1, f2]
  rw [bigSep_eq_bigSepL_of_eq [0, 1, 2] (by decide) (by decide)] at key
  iapply (show iprop(part c M rs0 fullShare f0 ∗ part c M rs1 fullShare f1 ∗ part c M rs2 fullShare f2) ⊢ _ from key)
  isplitl [P0]; · iexact P0
  isplitl [P1]; · iexact P1
  iexact P2

omit [FloatOps F] in
theorem cut_cuts (c : Dev nD) (M : Memref sig .tc .vmem S3x512x1024 .bf16) (f : M.view.ty.Contents (Elt F)) :
    (M.view.loc (c : Thread nD τ) ↦[M.view.set]{fullShare} f : sProp 𝕄) ⊢ iprop(part c M rs0 fullShare f ∗ part c M rs1 fullShare f ∗ part c M rc0 fullShare f ∗ part c M rc1 fullShare f ∗ part c M rc2 fullShare f ∗ part c M rc3 fullShare f) := by
  rw [cut_parts c M cuts cuts_disjoint cuts_cover f, bigSep_eq_bigSepL_of_eq [0, 1, 2, 3, 4, 5] (by decide) (by decide)]
  exact .rfl

omit [FloatOps F] in
theorem join_cuts (c : Dev nD) (M : Memref sig .tc .vmem S3x512x1024 .bf16) :
    iprop(loose (F := F) c M rs0 ∗ loose (F := F) c M rs1 ∗ loose (F := F) c M rc0 ∗ loose (F := F) c M rc1 ∗ loose (F := F) c M rc2 ∗ loose (F := F) c M rc3) ⊢ (iprop(∃ f : M.view.ty.Contents (Elt F), M.view.loc (c : Thread nD τ) ↦[M.view.set]{fullShare} f) : sProp 𝕄) := by
  iintro ⟨⟨%f0, P0⟩, ⟨%f1, P1⟩, ⟨%f2, P2⟩, ⟨%f3, P3⟩, ⟨%f4, P4⟩, ⟨%f5, P5⟩⟩
  have key := join_parts c M cuts cuts_disjoint cuts_cover ![f0, f1, f2, f3, f4, f5]
  rw [bigSep_eq_bigSepL_of_eq [0, 1, 2, 3, 4, 5] (by decide) (by decide)] at key
  iapply (show iprop(part c M rs0 fullShare f0 ∗ part c M rs1 fullShare f1 ∗ part c M rc0 fullShare f2 ∗ part c M rc1 fullShare f3 ∗ part c M rc2 fullShare f4 ∗ part c M rc3 fullShare f5) ⊢ _ from key)
  isplitl [P0]; · iexact P0
  isplitl [P1]; · iexact P1
  isplitl [P2]; · iexact P2
  isplitl [P3]; · iexact P3
  isplitl [P4]; · iexact P4
  iexact P5

omit [FloatOps F] in
theorem cut_pair (c : Dev nD) (M : Memref sig .tc .vmem S2x2048x128 .f32) (f : M.view.ty.Contents (Elt F)) :
    (M.view.loc (c : Thread nD τ) ↦[M.view.set]{fullShare} f : sProp 𝕄) ⊢ iprop(part c M rk0 fullShare f ∗ part c M rk1 fullShare f) := by
  rw [cut_parts c M pair pair_disjoint pair_cover f, bigSep_eq_bigSepL_of_eq [0, 1] (by decide) (by decide)]
  exact .rfl

omit [FloatOps F] in
theorem join_pair (c : Dev nD) (M : Memref sig .tc .vmem S2x2048x128 .f32) :
    iprop(loose (F := F) c M rk0 ∗ loose (F := F) c M rk1) ⊢ (iprop(∃ f : M.view.ty.Contents (Elt F), M.view.loc (c : Thread nD τ) ↦[M.view.set]{fullShare} f) : sProp 𝕄) := by
  iintro ⟨⟨%f0, P0⟩, ⟨%f1, P1⟩⟩
  have key := join_parts c M pair pair_disjoint pair_cover ![f0, f1]
  rw [bigSep_eq_bigSepL_of_eq [0, 1] (by decide) (by decide)] at key
  iapply (show iprop(part c M rk0 fullShare f0 ∗ part c M rk1 fullShare f1) ⊢ _ from key)
  isplitl [P0]; · iexact P0
  iexact P1

/-! ## Landing buffers, and whole buffers from what comes back -/

/-- A rectangle held is its matrix owned, at some value, -/
theorem sq_of_part (c : Dev nD) {s s' : Shape} {e : EltTy} (M : Memref sig .tc .vmem s e) (R : Rect s) (hr : ∀ a, R.stride a = 1)
    (hq : R.shape.Squeezes s') (f : M.view.ty.Contents (Elt F)) :
    part c M R fullShare f ⊢ (iprop(∃ X, owns (c : Thread nD τ) ((M.slice R hr).squeeze s' hq) fullShare X) : sProp 𝕄) := by
  iintro H
  iexists ((M.slice R hr).squeeze s' hq).view.read (Elt F) f
  iapply (owns_sq c M R hr hq fullShare _).2
  iexists f
  isplitr; · ipureintro; rfl
  iexact H
/-- and back. -/
theorem loose_of_sq (c : Dev nD) {s s' : Shape} {e : EltTy} (M : Memref sig .tc .vmem s e) (R : Rect s) (hr : ∀ a, R.stride a = 1)
    (hq : R.shape.Squeezes s') (X : s'.Idx → Elt F e) :
    (owns (c : Thread nD τ) ((M.slice R hr).squeeze s' hq) fullShare X : sProp 𝕄) ⊢ loose c M R := by
  iintro H
  ihave H := (owns_sq c M R hr hq fullShare X).1 $$ H
  icases H with ⟨%f, -, H⟩
  iexists f
  iexact H
/-- A whole buffer owned is held at some contents. -/
theorem hold_of_owns (c : Dev nD) (b : Ref sig .tc) (X : b.ty.shape.Idx → Elt F b.ty.elt) :
    (owns (c : Thread nD τ) (Memref.whole b) fullShare X : sProp 𝕄) ⊢ iprop(∃ f, hold c fullShare b f) := by
  iintro H
  ihave H := (whole_open c b fullShare X) $$ H
  icases H with ⟨%f, -, H⟩
  iexists f
  iexact H

/-- The nine landing buffers are two scratch buffers in pieces. -/
theorem landings_intro (c : Dev nD) (f1 f3) :
    iprop(hold c fullShare cc0_scratch1 f1 ∗ hold c fullShare cc0_scratch3 f3) ⊢ (bigSep Finset.univ fun e : Fin 9 => landing e c : sProp 𝕄) := by
  rw [landings]
  iintro ⟨H1, H3⟩
  ihave H1 := (cut_slots c xfM f1) $$ H1
  icases H1 with ⟨A0, A1, A2⟩
  ihave H3 := (cut_cuts c rrM f3) $$ H3
  icases H3 with ⟨A3, A4, A5, A6, A7, A8⟩
  isplitl [A0]
  · iapply (show part c xfM rs0 fullShare f1 ⊢ (landing 0 c : sProp 𝕄) from sq_of_part c xfM rs0 (fun _ => rfl) squeezes_S1x512x1024_S512x1024 _) $$ A0
  isplitl [A1]
  · iapply (show part c xfM rs1 fullShare f1 ⊢ (landing 1 c : sProp 𝕄) from sq_of_part c xfM rs1 (fun _ => rfl) squeezes_S1x512x1024_S512x1024 _) $$ A1
  isplitl [A2]
  · iapply (show part c xfM rs2 fullShare f1 ⊢ (landing 2 c : sProp 𝕄) from sq_of_part c xfM rs2 (fun _ => rfl) squeezes_S1x512x1024_S512x1024 _) $$ A2
  isplitl [A3]
  · iapply (show part c rrM rs0 fullShare f3 ⊢ (landing 3 c : sProp 𝕄) from sq_of_part c rrM rs0 (fun _ => rfl) squeezes_S1x512x1024_S512x1024 _) $$ A3
  isplitl [A4]
  · iapply (show part c rrM rs1 fullShare f3 ⊢ (landing 4 c : sProp 𝕄) from sq_of_part c rrM rs1 (fun _ => rfl) squeezes_S1x512x1024_S512x1024 _) $$ A4
  isplitl [A5]
  · iapply (show part c rrM rc0 fullShare f3 ⊢ (landing 5 c : sProp 𝕄) from sq_of_part c rrM rc0 (fun _ => rfl) squeezes_S1x128x1024_S128x1024 _) $$ A5
  isplitl [A6]
  · iapply (show part c rrM rc1 fullShare f3 ⊢ (landing 6 c : sProp 𝕄) from sq_of_part c rrM rc1 (fun _ => rfl) squeezes_S1x128x1024_S128x1024 _) $$ A6
  isplitl [A7]
  · iapply (show part c rrM rc2 fullShare f3 ⊢ (landing 7 c : sProp 𝕄) from sq_of_part c rrM rc2 (fun _ => rfl) squeezes_S1x128x1024_S128x1024 _) $$ A7
  iapply (show part c rrM rc3 fullShare f3 ⊢ (landing 8 c : sProp 𝕄) from sq_of_part c rrM rc3 (fun _ => rfl) squeezes_S1x128x1024_S128x1024 _) $$ A8

/-- What the receiving buffer of the activations comes back as, -/
theorem gather_xf (c : Dev nD) (X0 X1 X2 : Vec F S512x1024 .bf16) :
    iprop((owns (c : Thread nD τ) (edst 0) fullShare.left X0 ∗ owns (c : Thread nD τ) (edst 0) fullShare.right X0) ∗ (owns (c : Thread nD τ) (edst 1) fullShare.left X1 ∗ owns (c : Thread nD τ) (edst 1) fullShare.right X1) ∗ owns (c : Thread nD τ) (edst 2) fullShare X2)
      ⊢ (iprop(∃ f, hold c fullShare cc0_scratch1 f) : sProp 𝕄) := by
  iintro ⟨B0, B1, B2⟩
  ihave B0 := (owns_halves (c : Thread nD τ) (edst 0) fullShare X0).2 $$ B0
  ihave B1 := (owns_halves (c : Thread nD τ) (edst 1) fullShare X1).2 $$ B1
  iapply (join_slots c xfM)
  isplitl [B0]
  · iapply (show (owns (c : Thread nD τ) (edst 0) fullShare X0 : sProp 𝕄) ⊢ loose c xfM rs0 from loose_of_sq c xfM rs0 (fun _ => rfl) squeezes_S1x512x1024_S512x1024 X0) $$ B0
  isplitl [B1]
  · iapply (show (owns (c : Thread nD τ) (edst 1) fullShare X1 : sProp 𝕄) ⊢ loose c xfM rs1 from loose_of_sq c xfM rs1 (fun _ => rfl) squeezes_S1x512x1024_S512x1024 X1) $$ B1
  iapply (show (owns (c : Thread nD τ) (edst 2) fullShare X2 : sProp 𝕄) ⊢ loose c xfM rs2 from loose_of_sq c xfM rs2 (fun _ => rfl) squeezes_S1x512x1024_S512x1024 X2) $$ B2
/-- the receiving buffer of the sums,, -/
theorem gather_rr (c : Dev nD) (X0 X1 : Vec F S512x1024 .bf16) (Y0 Y1 Y2 Y3 : Vec F S128x1024 .bf16) :
    iprop(owns (c : Thread nD τ) (edst 3) fullShare X0 ∗ owns (c : Thread nD τ) (edst 4) fullShare X1 ∗ owns (c : Thread nD τ) (edst 5) fullShare Y0 ∗ owns (c : Thread nD τ) (edst 6) fullShare Y1 ∗ owns (c : Thread nD τ) (edst 7) fullShare Y2 ∗ owns (c : Thread nD τ) (edst 8) fullShare Y3)
      ⊢ (iprop(∃ f, hold c fullShare cc0_scratch3 f) : sProp 𝕄) := by
  iintro ⟨B0, B1, B2, B3, B4, B5⟩
  iapply (join_cuts c rrM)
  isplitl [B0]
  · iapply (show (owns (c : Thread nD τ) (edst 3) fullShare X0 : sProp 𝕄) ⊢ loose c rrM rs0 from loose_of_sq c rrM rs0 (fun _ => rfl) squeezes_S1x512x1024_S512x1024 X0) $$ B0
  isplitl [B1]
  · iapply (show (owns (c : Thread nD τ) (edst 4) fullShare X1 : sProp 𝕄) ⊢ loose c rrM rs1 from loose_of_sq c rrM rs1 (fun _ => rfl) squeezes_S1x512x1024_S512x1024 X1) $$ B1
  isplitl [B2]
  · iapply (show (owns (c : Thread nD τ) (edst 5) fullShare Y0 : sProp 𝕄) ⊢ loose c rrM rc0 from loose_of_sq c rrM rc0 (fun _ => rfl) squeezes_S1x128x1024_S128x1024 Y0) $$ B2
  isplitl [B3]
  · iapply (show (owns (c : Thread nD τ) (edst 6) fullShare Y1 : sProp 𝕄) ⊢ loose c rrM rc1 from loose_of_sq c rrM rc1 (fun _ => rfl) squeezes_S1x128x1024_S128x1024 Y1) $$ B3
  isplitl [B4]
  · iapply (show (owns (c : Thread nD τ) (edst 7) fullShare Y2 : sProp 𝕄) ⊢ loose c rrM rc2 from loose_of_sq c rrM rc2 (fun _ => rfl) squeezes_S1x128x1024_S128x1024 Y2) $$ B4
  iapply (show (owns (c : Thread nD τ) (edst 8) fullShare Y3 : sProp 𝕄) ⊢ loose c rrM rc3 from loose_of_sq c rrM rc3 (fun _ => rfl) squeezes_S1x128x1024_S128x1024 Y3) $$ B5
/-- and the sending buffer of the sums. -/
theorem gather_pa (c : Dev nD) (X0 X1 : Vec F S512x1024 .bf16) (Y0 Y1 Y2 Y3 : Vec F S128x1024 .bf16) :
    iprop(owns (c : Thread nD τ) (esrc 3) fullShare X0 ∗ owns (c : Thread nD τ) (esrc 4) fullShare X1 ∗ owns (c : Thread nD τ) (esrc 5) fullShare Y0 ∗ owns (c : Thread nD τ) (esrc 6) fullShare Y1 ∗ owns (c : Thread nD τ) (esrc 7) fullShare Y2 ∗ owns (c : Thread nD τ) (esrc 8) fullShare Y3)
      ⊢ (iprop(∃ f, hold c fullShare cc0_scratch2 f) : sProp 𝕄) := by
  iintro ⟨B0, B1, B2, B3, B4, B5⟩
  iapply (join_cuts c paM)
  isplitl [B0]
  · iapply (show (owns (c : Thread nD τ) (esrc 3) fullShare X0 : sProp 𝕄) ⊢ loose c paM rs0 from loose_of_sq c paM rs0 (fun _ => rfl) squeezes_S1x512x1024_S512x1024 X0) $$ B0
  isplitl [B1]
  · iapply (show (owns (c : Thread nD τ) (esrc 4) fullShare X1 : sProp 𝕄) ⊢ loose c paM rs1 from loose_of_sq c paM rs1 (fun _ => rfl) squeezes_S1x512x1024_S512x1024 X1) $$ B1
  isplitl [B2]
  · iapply (show (owns (c : Thread nD τ) (esrc 5) fullShare Y0 : sProp 𝕄) ⊢ loose c paM rc0 from loose_of_sq c paM rc0 (fun _ => rfl) squeezes_S1x128x1024_S128x1024 Y0) $$ B2
  isplitl [B3]
  · iapply (show (owns (c : Thread nD τ) (esrc 6) fullShare Y1 : sProp 𝕄) ⊢ loose c paM rc1 from loose_of_sq c paM rc1 (fun _ => rfl) squeezes_S1x128x1024_S128x1024 Y1) $$ B3
  isplitl [B4]
  · iapply (show (owns (c : Thread nD τ) (esrc 7) fullShare Y2 : sProp 𝕄) ⊢ loose c paM rc2 from loose_of_sq c paM rc2 (fun _ => rfl) squeezes_S1x128x1024_S128x1024 Y2) $$ B4
  iapply (show (owns (c : Thread nD τ) (esrc 8) fullShare Y3 : sProp 𝕄) ⊢ loose c paM rc3 from loose_of_sq c paM rc3 (fun _ => rfl) squeezes_S1x128x1024_S128x1024 Y3) $$ B5

omit [FloatOps F] in
/-- A share of an array as the two of its tokens a fetch reads through, and the rest. -/
theorem tokens (c : Dev nD) (b : Ref sig .tc) (i j : ℕ) (hij : i ≠ j) (hi : i < 28) (hj : j < 28) (f : b.ty.Contents (Elt F)) :
    (hold c fullShare b f : sProp 𝕄) ⊣⊢ iprop(hold c (Transfers.shareTokN fullShare i) b f ∗ hold c (Transfers.shareTokN fullShare j) b f
      ∗ (hold c (Transfers.shareDrop fullShare 28) b f ∗ bigSep (((Finset.range 28).erase i).erase j) fun n => hold c (Transfers.shareTokN fullShare n) b f)) := by
  have h := Transfers.pointsTo_toks_range (ℓ := (Memref.whole b).view.loc (c : Thread nD τ)) (S := (Memref.whole b).view.set) (f := f) (Val := Elt F) (Ix := Unit) (Name := ℕ) (U := UU) (Lvl := ℕ) fullShare 28
  have e1 : Finset.range 28 = insert i (insert j (((Finset.range 28).erase i).erase j)) := by
    rw [Finset.insert_erase (Finset.mem_erase.mpr ⟨hij.symm, Finset.mem_range.mpr hj⟩), Finset.insert_erase (Finset.mem_range.mpr hi)]
  have hni : i ∉ insert j (((Finset.range 28).erase i).erase j) := by simp [hij]
  have hnj : j ∉ (((Finset.range 28).erase i).erase j) := by simp
  rw [e1, bigSep_insert hni, bigSep_insert hnj] at h
  replace h : (hold c fullShare b f : sProp 𝕄) ⊣⊢ iprop(hold c (Transfers.shareDrop fullShare 28) b f ∗ hold c (Transfers.shareTokN fullShare i) b f
    ∗ hold c (Transfers.shareTokN fullShare j) b f ∗ bigSep (((Finset.range 28).erase i).erase j) fun n => hold c (Transfers.shareTokN fullShare n) b f) := h
  constructor
  · iintro H
    ihave H := h.1 $$ H
    icases H with ⟨D, A, B, R⟩
    isplitl [A]; · iexact A
    isplitl [B]; · iexact B
    isplitl [D]; · iexact D
    iexact R
  · iintro ⟨A, B, D, R⟩
    iapply h.2
    isplitl [D]; · iexact D
    isplitl [A]; · iexact A
    isplitl [B]; · iexact B
    iexact R
end Cert.Ring
-- ==== Proof.Stretch1.lean ====
/-
# The first stretch

A device signals its neighbours, sends its block of activations on, fetches and casts its keys and values, and computes its own
block's attention and partial product into the result.
-/
module

public import proofs.«01_k».proof.Proof.Runs

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Sent F)

set_option maxHeartbeats 4000000 in
theorem first_spec (K : Dev nD × CIx → ℕ) (c : Dev nD) (fx fwq fwo fK fV fo f0 f10 f11 f12 f13 f14 f14' f15 f15' f16 f17)
    (hV0 : V 0 c = k0_pay1 (xin.view.readAt (Elt F) (Rect.unit ![0, 0] S512x1024.size inb_S512x1024_S512x1024_0_0).toLoadRect fx))
    {R : Type} (κ : Dev nD → BitVec 32 → DProg F R) {Q : R → sProp 𝕄} :
    iprop(recs V K ∗ levAts L lv ∗ owing c (owe₀ c) ∗ dutyTok ER (barCell (prv c)) 0 true ∗ dutyTok ER (barCell (nxt c)) 0 false
      ∗ (bigSep Finset.univ fun e : Fin 9 => landing e c) ∗ cred (tallyAt (barCell c) () 2) ∗ atPos ER (barCell c) 0 ∅ 0
      ∗ sendTok 0 c ∗ atPos ER (sendCell 0 c) 0 ∅ 0
      ∗ hold c fullShare cc0_stg0_0 fx ∗ hold c fullShare cc0_stg1_0 fwq ∗ hold c fullShare cc0_stg2_0 fwo ∗ hold c fullShare cc0_stg3_0 fo
      ∗ hold c (Transfers.shareTokN fullShare 24) main_arg2 fK ∗ hold c (Transfers.shareTokN fullShare 25) main_arg2 fK
      ∗ hold c (Transfers.shareTokN fullShare 26) main_arg3 fV ∗ hold c (Transfers.shareTokN fullShare 27) main_arg3 fV
      ∗ hold c fullShare cc0_scratch0 f0
      ∗ hold c fullShare cc0_scratch4 f10 ∗ hold c fullShare cc0_scratch5 f11 ∗ hold c fullShare cc0_scratch6 f12
      ∗ hold c fullShare cc0_scratch7 f13 ∗ part c kbM rk0 fullShare f14 ∗ part c kbM rk1 fullShare f14' ∗ part c vbM rk0 fullShare f15 ∗ part c vbM rk1 fullShare f15'
      ∗ hold c fullShare cc0_scratch10 f16 ∗ hold c fullShare cc0_scratch11 f17
      ∗ semVal ((c : Thread nD τ), .dma ⟨24, by decide⟩) 0 ∗ semVal ((c : Thread nD τ), .dma ⟨25, by decide⟩) 0
      ∗ semVal ((c : Thread nD τ), .dma ⟨26, by decide⟩) 0 ∗ semVal ((c : Thread nD τ), .dma ⟨27, by decide⟩) 0)
      ⊢ iprop((∀ v7, (owing c (owe c 1) ∗ semVal (barCell c) 0
          ∗ (landing 1 (nxt c) ∗ landing 2 (nxt c) ∗ landing 3 (nxt c) ∗ landing 4 (nxt c) ∗ landing 5 (nxt c) ∗ landing 6 (nxt c) ∗ landing 7 (nxt c) ∗ landing 8 (nxt c))
          ∗ sendWait 0 c ∗ owns (c : Thread nD τ) xsM fullShare.right (V 0 c)
          ∗ hold c fullShare cc0_stg0_0 fx ∗ hold c fullShare cc0_stg1_0 fwq ∗ hold c fullShare cc0_stg2_0 fwo
          ∗ (∃ g, ⌜outM.view.read (Elt F) g = k0_pay37 (attnOf (V 0 c) (k0_pay2 ((Memref.whole cc0_stg1_0).view.read (Elt F) fwq))
                (fun h => kvOf (fetched c (Memref.whole main_arg2) fK h)) (fun h => kvOf (fetched c (Memref.whole main_arg3) fV h)))
                (k0_pay3 ((Memref.whole cc0_stg2_0).view.read (Elt F) fwo))⌝ ∗ hold c fullShare cc0_stg3_0 g)
          ∗ hold c (Transfers.shareTokN fullShare 24) main_arg2 fK ∗ hold c (Transfers.shareTokN fullShare 25) main_arg2 fK
          ∗ hold c (Transfers.shareTokN fullShare 26) main_arg3 fV ∗ hold c (Transfers.shareTokN fullShare 27) main_arg3 fV
          ∗ owns (c : Thread nD τ) (Memref.whole cc0_scratch4) fullShare (k0_pay2 ((Memref.whole cc0_stg1_0).view.read (Elt F) fwq))
          ∗ owns (c : Thread nD τ) (Memref.whole cc0_scratch5) fullShare (k0_pay3 ((Memref.whole cc0_stg2_0).view.read (Elt F) fwo))
          ∗ (∃ g, hold c fullShare cc0_scratch6 g) ∗ (∃ g, hold c fullShare cc0_scratch7 g)
          ∗ (∃ g, part c kbM rk0 fullShare g) ∗ (∃ g, part c kbM rk1 fullShare g) ∗ (∃ g, part c vbM rk0 fullShare g) ∗ (∃ g, part c vbM rk1 fullShare g)
          ∗ owns (c : Thread nD τ) (Memref.whole cc0_scratch10) fullShare (stacked fun h => kvOf (fetched c (Memref.whole main_arg2) fK h))
          ∗ owns (c : Thread nD τ) (Memref.whole cc0_scratch11) fullShare (stacked fun h => kvOf (fetched c (Memref.whole main_arg3) fV h))
          ∗ semVal ((c : Thread nD τ), .dma ⟨24, by decide⟩) 0 ∗ semVal ((c : Thread nD τ), .dma ⟨25, by decide⟩) 0
          ∗ semVal ((c : Thread nD τ), .dma ⟨26, by decide⟩) 0 ∗ semVal ((c : Thread nD τ), .dma ⟨27, by decide⟩) 0)
          -∗ wp frame (wpE (defs₀ (F := F)) 𝒱₀ (c : Thread nD τ) none) Set.univ (κ c v7) Q)
        -∗ wp frame (wpE (defs₀ (F := F)) 𝒱₀ (c : Thread nD τ) none) Set.univ (run1 κ) Q) := by
  iintro ⟨#HR, #Hlev, HO, HtP, HtN, Hland, HcB, HaB, Ht0, Ha0, Hx, Hwq, Hwo, Ho, HK0, HK1, HV0, HV1, H0, H10, H11, H12, H13, H14, H14', H15, H15', H16, H17, Hs24, Hs25, Hs26, Hs27⟩ Hκ
  unfold run1 mid1
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  sl_exec
  iapply (step_signal_prv V K c _ (dev1_eq c)) $$ [HO HtP Hland]
  · isplitr; · iexact HR
    isplitl [HO]; · iexact HO
    isplitl [HtP]; · iexact HtP
    iexact Hland
  iintro HO
  sl_exec
  iapply (step_signal_nxt V K c _ (dev2_eq c)) $$ [HO HtN]
  · isplitr; · iexact HR
    isplitl [HO]; · iexact HO
    iexact HtN
  iintro HO
  sl_exec
  iapply (step_wait_bar V K c) $$ [HO HcB HaB]
  · isplitr; · iexact HR
    isplitr; · iexact Hlev
    isplitl [HO]; · iexact HO
    isplitl [HcB]; · iexact HcB
    iexact HaB
  iintro ⟨HO, Hsb, Hl⟩
  ihave Hl := (Entails.of_eq (landings (nxt c))) $$ Hl
  icases Hl with ⟨Hl0, Hl1, Hl2, Hl3, Hl4, Hl5, Hl6, Hl7, Hl8⟩
  sl_exec
  have h0 : (Memref.whole cc0_scratch0).view.read (Elt F) ((Memref.whole cc0_scratch0).view.writes (Elt F) f0
      [⟨Rect.unit ![0, 0] S512x1024.size inb_S512x1024_S512x1024_0_0, k0_pay1 (first_spec.sl.v16 fx)⟩]) = V 0 c := by
    exact (View.read_writes_full _ _ _ _ _).trans (hV0.symm)
  ihave H0 := (owns_intro (c : Thread nD τ) (Memref.whole cc0_scratch0) fullShare _) $$ H0
  ihave H0 := (Entails.of_eq (congrArg (owns (c : Thread nD τ) (Memref.whole cc0_scratch0) fullShare) h0)) $$ H0
  ihave H0 := (owns_halves (c : Thread nD τ) (Memref.whole cc0_scratch0) fullShare (V 0 c)).1 $$ H0
  icases H0 with ⟨H0l, H0r⟩
  iapply (step_send V K c 0 1 rfl _ (dev3_eq c) rfl rfl rfl rfl) $$ [HO Ht0 Ha0 H0l Hl0]
  · isplitr; · iexact HR
    isplitl [HO]; · iexact HO
    isplitl [Ht0]; · iexact Ht0
    isplitl [Ha0]; · iexact Ha0
    isplitl [H0l]; · iexact H0l
    iexact Hl0
  iintro ⟨HO, Hs0⟩
  unfold owing owns
  icases HO with ⟨%W, HO⟩
  icases H0r with ⟨%f0', %hf0, H0⟩
  have hm24 : (levAts L lv : sProp 𝕄) ⊢ MayWait (c : Thread nD τ) (.dma ⟨24, by decide⟩) () (owe c 1) := mayWait_owe (F := F) c _ 1 (by rw [lv_other c _ (by decide) (by decide)]; decide)
  have hm25 : (levAts L lv : sProp 𝕄) ⊢ MayWait (c : Thread nD τ) (.dma ⟨25, by decide⟩) () (owe c 1) := mayWait_owe (F := F) c _ 1 (by rw [lv_other c _ (by decide) (by decide)]; decide)
  have hm26 : (levAts L lv : sProp 𝕄) ⊢ MayWait (c : Thread nD τ) (.dma ⟨26, by decide⟩) () (owe c 1) := mayWait_owe (F := F) c _ 1 (by rw [lv_other c _ (by decide) (by decide)]; decide)
  have hm27 : (levAts L lv : sProp 𝕄) ⊢ MayWait (c : Thread nD τ) (.dma ⟨27, by decide⟩) () (owe c 1) := mayWait_owe (F := F) c _ 1 (by rw [lv_other c _ (by decide) (by decide)]; decide)

  set_option sl_exec.squeezeSlice true in
  sl_exec
  have hslot (M : Memref sig .tc .vmem S2x2048x128 .f32) (R : Rect S2x2048x128) (hr hq) (hc : S2048x128.ShapeCasts R.shape) (g) (D : Vec F S2048x128 .f32) :=
    readAt_write_squeezed (F := F) M R hr hq hc g D
  have hslot0 (M : Memref sig .tc .vmem S2x2048x128 .f32) (hr hq) (g) (D) := hslot M rk0 hr hq shapeCasts_S2048x128_S1x2048x128 g D
  have hslot1 (M : Memref sig .tc .vmem S2x2048x128 .f32) (hr hq) (g) (D) := hslot M rk1 hr hq shapeCasts_S2048x128_S1x2048x128 g D
  have hfull (v : View sig .tc .vmem S1024x1024 .f32) (f) :
      v.readAt (Elt F) (Rect.unit (s := S1024x1024) ![0, 0] S1024x1024.size inb_S1024x1024_S1024x1024_0_0).toLoadRect f = v.read (Elt F) f := View.readAt_full _ _ _
  have hfullx (v : View sig .tc .vmem S512x1024 .bf16) (f) :
      v.readAt (Elt F) (Rect.unit (s := S512x1024) ![0, 0] S512x1024.size inb_S512x1024_S512x1024_0_0).toLoadRect f = v.read (Elt F) f := View.readAt_full _ _ _
  have hWQ : (Memref.whole cc0_scratch4).view.read (Elt F) ((Memref.whole cc0_scratch4).view.writes (Elt F) f10 (first_spec.sl.H10_1 fwq))
      = k0_pay2 ((Memref.whole cc0_stg1_0).view.read (Elt F) fwq) := by
    delta first_spec.sl.H10_1; simp -proj only [hfull]; exact View.read_writes_full _ _ _ _ _
  have hWO : (Memref.whole cc0_scratch5).view.read (Elt F) ((Memref.whole cc0_scratch5).view.writes (Elt F) f11 (first_spec.sl.H11_1 fwo))
      = k0_pay3 ((Memref.whole cc0_stg2_0).view.read (Elt F) fwo) := by
    delta first_spec.sl.H11_1; simp -proj only [hfull]; exact View.read_writes_full _ _ _ _ _
  have hK : first_spec.sl.H16_8 c fK f14 f14' = banks (fun h => kvOf (fetched c (Memref.whole main_arg2) fK h)) := by
    delta first_spec.sl.H16_1 first_spec.sl.H16_2 first_spec.sl.H16_3 first_spec.sl.H16_4 first_spec.sl.H16_5 first_spec.sl.H16_6 first_spec.sl.H16_7 first_spec.sl.H16_8 first_spec.sl.r first_spec.sl.v1 first_spec.sl.v105 first_spec.sl.v111 first_spec.sl.v117 first_spec.sl.v118 first_spec.sl.v126 first_spec.sl.v16 first_spec.sl.v171 first_spec.sl.v177 first_spec.sl.v183 first_spec.sl.v184 first_spec.sl.v192 first_spec.sl.v2 first_spec.sl.v237 first_spec.sl.v243 first_spec.sl.v249 first_spec.sl.v250 first_spec.sl.v258 first_spec.sl.v303 first_spec.sl.v309 first_spec.sl.v315 first_spec.sl.v316 first_spec.sl.v324 first_spec.sl.v369 first_spec.sl.v375 first_spec.sl.v381 first_spec.sl.v382 first_spec.sl.v390 first_spec.sl.v435 first_spec.sl.v441 first_spec.sl.v447 first_spec.sl.v448 first_spec.sl.v456 first_spec.sl.v501 first_spec.sl.v507 first_spec.sl.v513 first_spec.sl.v514 first_spec.sl.v522 first_spec.sl.v549 first_spec.sl.v555 first_spec.sl.v561 first_spec.sl.v562 first_spec.sl.v570 first_spec.sl.v579 first_spec.sl.v580 first_spec.sl.v6 first_spec.sl.v63 first_spec.sl.v7 first_spec.sl.v8
    simp -proj only [hslot0, hslot1]
    rfl
  have hV : first_spec.sl.H17_8 c fV f15 f15' = banks (fun h => kvOf (fetched c (Memref.whole main_arg3) fV h)) := by
    delta first_spec.sl.H17_1 first_spec.sl.H17_2 first_spec.sl.H17_3 first_spec.sl.H17_4 first_spec.sl.H17_5 first_spec.sl.H17_6 first_spec.sl.H17_7 first_spec.sl.H17_8 first_spec.sl.r_3 first_spec.sl.r_6 first_spec.sl.r_7 first_spec.sl.v1 first_spec.sl.v105 first_spec.sl.v111 first_spec.sl.v117 first_spec.sl.v118 first_spec.sl.v126 first_spec.sl.v16 first_spec.sl.v171 first_spec.sl.v177 first_spec.sl.v183 first_spec.sl.v184 first_spec.sl.v192 first_spec.sl.v2 first_spec.sl.v237 first_spec.sl.v243 first_spec.sl.v249 first_spec.sl.v250 first_spec.sl.v258 first_spec.sl.v303 first_spec.sl.v309 first_spec.sl.v315 first_spec.sl.v316 first_spec.sl.v324 first_spec.sl.v369 first_spec.sl.v375 first_spec.sl.v381 first_spec.sl.v382 first_spec.sl.v390 first_spec.sl.v435 first_spec.sl.v441 first_spec.sl.v447 first_spec.sl.v448 first_spec.sl.v456 first_spec.sl.v501 first_spec.sl.v507 first_spec.sl.v513 first_spec.sl.v514 first_spec.sl.v522 first_spec.sl.v549 first_spec.sl.v555 first_spec.sl.v561 first_spec.sl.v562 first_spec.sl.v570 first_spec.sl.v579 first_spec.sl.v580 first_spec.sl.v6 first_spec.sl.v63 first_spec.sl.v7 first_spec.sl.v8
    simp -proj only [hslot0, hslot1]
    rfl
  have hQ : first_spec.sl.H12_1 c fwq f0' = [⟨allR, k0_pay38 (V 0 c) (k0_pay2 ((Memref.whole cc0_stg1_0).view.read (Elt F) fwq))⟩] := by
    delta first_spec.sl.H12_1 first_spec.sl.v63 first_spec.sl.H10_1
    simp -proj only [View.readCov_cons_toLoadRect, hfull, hfullx, hf0]
    rfl
  have e0 : first_spec.sl.v117 c fwq f0' = colOf (k0_pay38 (V 0 c) (k0_pay2 ((Memref.whole cc0_stg1_0).view.read (Elt F) fwq))) 0 := by delta first_spec.sl.v117; rw [hQ]; exact readCov_col _ _ _ 0
  have e1 : first_spec.sl.v183 c fwq f0' = colOf (k0_pay38 (V 0 c) (k0_pay2 ((Memref.whole cc0_stg1_0).view.read (Elt F) fwq))) 1 := by delta first_spec.sl.v183; rw [hQ]; exact readCov_col _ _ _ 1
  have e2 : first_spec.sl.v249 c fwq f0' = colOf (k0_pay38 (V 0 c) (k0_pay2 ((Memref.whole cc0_stg1_0).view.read (Elt F) fwq))) 2 := by delta first_spec.sl.v249; rw [hQ]; exact readCov_col _ _ _ 2
  have e3 : first_spec.sl.v315 c fwq f0' = colOf (k0_pay38 (V 0 c) (k0_pay2 ((Memref.whole cc0_stg1_0).view.read (Elt F) fwq))) 3 := by delta first_spec.sl.v315; rw [hQ]; exact readCov_col _ _ _ 3
  have e4 : first_spec.sl.v381 c fwq f0' = colOf (k0_pay38 (V 0 c) (k0_pay2 ((Memref.whole cc0_stg1_0).view.read (Elt F) fwq))) 4 := by delta first_spec.sl.v381; rw [hQ]; exact readCov_col _ _ _ 4
  have e5 : first_spec.sl.v447 c fwq f0' = colOf (k0_pay38 (V 0 c) (k0_pay2 ((Memref.whole cc0_stg1_0).view.read (Elt F) fwq))) 5 := by delta first_spec.sl.v447; rw [hQ]; exact readCov_col _ _ _ 5
  have e6 : first_spec.sl.v513 c fwq f0' = colOf (k0_pay38 (V 0 c) (k0_pay2 ((Memref.whole cc0_stg1_0).view.read (Elt F) fwq))) 6 := by delta first_spec.sl.v513; rw [hQ]; exact readCov_col _ _ _ 6
  have e7 : first_spec.sl.v561 c fwq f0' = colOf (k0_pay38 (V 0 c) (k0_pay2 ((Memref.whole cc0_stg1_0).view.read (Elt F) fwq))) 7 := by delta first_spec.sl.v561; rw [hQ]; exact readCov_col _ _ _ 7
  have hA : first_spec.sl.v579 c fwq fK fV f14 f14' f15 f15' f0' = attnOf (V 0 c) (k0_pay2 ((Memref.whole cc0_stg1_0).view.read (Elt F) fwq))
      (fun h => kvOf (fetched c (Memref.whole main_arg2) fK h)) (fun h => kvOf (fetched c (Memref.whole main_arg3) fV h)) := by
    have hcols (H) := readCov_cols (F := F) (Memref.whole cc0_scratch7).view H
    refine Eq.trans ?_ (hcols _)
    delta first_spec.sl.v579
    refine congrArg (fun L => (Memref.whole cc0_scratch7).view.readCov L allR.toLoadRect) ?_
    delta first_spec.sl.H13_8 first_spec.sl.r_1 first_spec.sl.r_2 first_spec.sl.r_3 first_spec.sl.r_4 first_spec.sl.r_5 first_spec.sl.r_6 first_spec.sl.r_7
    simp -proj only [e0, e1, e2, e3, e4, e5, e6, e7]
    delta first_spec.sl.r first_spec.sl.r_3 first_spec.sl.r_6 first_spec.sl.H10_1 first_spec.sl.H11_1 first_spec.sl.H12_1 first_spec.sl.H16_1 first_spec.sl.H16_2 first_spec.sl.H16_3 first_spec.sl.H16_4 first_spec.sl.H16_5 first_spec.sl.H16_6 first_spec.sl.H16_7 first_spec.sl.H16_8 first_spec.sl.H17_1 first_spec.sl.H17_2 first_spec.sl.H17_3 first_spec.sl.H17_4 first_spec.sl.H17_5 first_spec.sl.H17_6 first_spec.sl.H17_7 first_spec.sl.H17_8 first_spec.sl.r first_spec.sl.v105 first_spec.sl.v111 first_spec.sl.v118 first_spec.sl.v126 first_spec.sl.v16 first_spec.sl.v171 first_spec.sl.v177 first_spec.sl.v184 first_spec.sl.v192 first_spec.sl.v237 first_spec.sl.v243 first_spec.sl.v250 first_spec.sl.v258 first_spec.sl.v303 first_spec.sl.v309 first_spec.sl.v316 first_spec.sl.v324 first_spec.sl.v369 first_spec.sl.v375 first_spec.sl.v382 first_spec.sl.v390 first_spec.sl.v435 first_spec.sl.v441 first_spec.sl.v448 first_spec.sl.v456 first_spec.sl.v501 first_spec.sl.v507 first_spec.sl.v514 first_spec.sl.v522 first_spec.sl.v549 first_spec.sl.v555 first_spec.sl.v562 first_spec.sl.v570 first_spec.sl.v579 first_spec.sl.v580 first_spec.sl.v63
    simp -proj only [hslot0, hslot1, View.readCov_cons_toLoadRect]
    rfl
  have hO : first_spec.sl.v580 fwo = k0_pay3 ((Memref.whole cc0_stg2_0).view.read (Elt F) fwo) := by
    delta first_spec.sl.v580 first_spec.sl.H11_1; simp -proj only [hfull]; exact View.readCov_full _ _ _ _ _
  ihave Ho := (out_intro c fo _ _ (congrArg₂ k0_pay37 hA hO) _ _ _ _) $$ Ho
  iapply Hκ
  isplitl [HO]; · iexists _; iexact HO
  isplitl [Hsb]; · iexact Hsb
  isplitl [Hl1 Hl2 Hl3 Hl4 Hl5 Hl6 Hl7 Hl8]
  · isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    iexact Hl8
  isplitl [Hs0]; · iexact Hs0
  isplitl [H0]
  · iexists f0'; isplitr; · ipureintro; exact hf0
    iexact H0
  isplitl [Hx]; · iexact Hx
  isplitl [Hwq]; · iexact Hwq
  isplitl [Hwo]; · iexact Hwo
  isplitl [Ho]; · iexact Ho
  isplitl [HK0]; · iexact HK0
  isplitl [HK1]; · iexact HK1
  isplitl [HV0]; · iexact HV0
  isplitl [HV1]; · iexact HV1
  isplitl [H10]
  · iexists _; isplitr; · ipureintro; exact hWQ
    iexact H10
  isplitl [H11]
  · iexists _; isplitr; · ipureintro; exact hWO
    iexact H11
  isplitl [H12]; · iexists _; iexact H12
  isplitl [H13]; · iexists _; iexact H13
  isplitl [H14]; · iexists _; iexact H14
  isplitl [H14']; · iexists _; iexact H14'
  isplitl [H15]; · iexists _; iexact H15
  isplitl [H15']; · iexists _; iexact H15'
  isplitl [H16]
  · iexists _; isplitr
    · ipureintro; exact (congrArg (fun L => (Memref.whole cc0_scratch10).view.read (Elt F) ((Memref.whole cc0_scratch10).view.writes (Elt F) f16 L)) hK).trans (read_banks _ _ _)
    iexact H16
  isplitl [H17]
  · iexists _; isplitr
    · ipureintro; exact (congrArg (fun L => (Memref.whole cc0_scratch11).view.read (Elt F) ((Memref.whole cc0_scratch11).view.writes (Elt F) f17 L)) hV).trans (read_banks _ _ _)
    iexact H17
  isplitl [Hs24]; · iexact Hs24
  isplitl [Hs25]; · iexact Hs25
  isplitl [Hs26]; · iexact Hs26
  iexact Hs27

end Cert.Ring
-- ==== Proof.Stretch2.lean ====
/-
# The second stretch

The block of activations of the device before arrives, is sent on, and its attention and partial product are computed.
-/
module

public import proofs.«01_k».proof.Proof.Runs

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Sent F)

set_option maxHeartbeats 4000000 in
theorem second_spec (K : Dev nD × CIx → ℕ) (c : Dev nD) (WQ WO : Vec F S1024x1024 .bf16) (KK VV : Fin 8 → Vec F S1x2048x128 .bf16)
    (hV1 : V 1 c = V 0 (prv c)) (hV3 : V 3 c = partOf (attnOf (V 0 (prv c)) WQ KK VV) WO) (v7 : BitVec 32) (f12 f13 f8)
    {R : Type} (κ : DProg F R) {Q : R → sProp 𝕄} :
    iprop(recs V K ∗ levAts L lv ∗ owing c (owe c 1) ∗ recvWait 0 c ∗ recvWait 1 c ∗ sendTok 1 c ∗ atPos ER (sendCell 1 c) 0 ∅ 0 ∗ landing 1 (nxt c)
      ∗ owns (c : Thread nD τ) (Memref.whole cc0_scratch4) fullShare WQ ∗ owns (c : Thread nD τ) (Memref.whole cc0_scratch5) fullShare WO
      ∗ hold c fullShare cc0_scratch6 f12 ∗ hold c fullShare cc0_scratch7 f13
      ∗ owns (c : Thread nD τ) (Memref.whole cc0_scratch10) fullShare (stacked KK) ∗ owns (c : Thread nD τ) (Memref.whole cc0_scratch11) fullShare (stacked VV)
      ∗ part c paM rs0 fullShare f8)
      ⊢ iprop(((owing c (owe c 2) ∗ sendWait 1 c ∗ semVal (recvCell 0 c) 0 ∗ semVal (recvCell 1 c) 0
          ∗ owns (c : Thread nD τ) (edst 0) fullShare.right (V 1 c) ∗ owns (c : Thread nD τ) (edst 1) fullShare (V 1 (prv c))
          ∗ owns (c : Thread nD τ) (esrc 3) fullShare (V 3 c)
          ∗ owns (c : Thread nD τ) (Memref.whole cc0_scratch4) fullShare WQ ∗ owns (c : Thread nD τ) (Memref.whole cc0_scratch5) fullShare WO
          ∗ (∃ g, hold c fullShare cc0_scratch6 g) ∗ (∃ g, hold c fullShare cc0_scratch7 g)
          ∗ owns (c : Thread nD τ) (Memref.whole cc0_scratch10) fullShare (stacked KK) ∗ owns (c : Thread nD τ) (Memref.whole cc0_scratch11) fullShare (stacked VV))
          -∗ wp frame (wpE (defs₀ (F := F)) 𝒱₀ (c : Thread nD τ) none) Set.univ κ Q)
        -∗ wp frame (wpE (defs₀ (F := F)) 𝒱₀ (c : Thread nD τ) none) Set.univ (run2 c v7 κ) Q) := by
  iintro ⟨#HR, #Hlev, HO, Hr0, Hr1, Ht1, Ha1, Hl1, H10, H11, H12, H13, H16, H17, H8⟩ Hκ
  ihave H10 := (whole_open c cc0_scratch4 _ _) $$ H10
  icases H10 with ⟨%f10, %hf10, H10⟩
  ihave H11 := (whole_open c cc0_scratch5 _ _) $$ H11
  icases H11 with ⟨%f11, %hf11, H11⟩
  ihave H16 := (whole_open c cc0_scratch10 _ _) $$ H16
  icases H16 with ⟨%f16, %hf16, H16⟩
  ihave H17 := (whole_open c cc0_scratch11 _ _) $$ H17
  icases H17 with ⟨%f17, %hf17, H17⟩
  unfold run2 mid2
  simp only [k0_part22_eq_skeleton, k0_part23_eq_skeleton, k0_part24_eq_skeleton, k0_part25_eq_skeleton, k0_part26_eq_skeleton, k0_part27_eq_skeleton]
  sl_exec
  iapply (step_recv V K c 0 1 (by decide) rfl rfl) $$ [HO Hr0]
  · isplitr; · iexact HR
    isplitr; · iexact Hlev
    isplitl [HO]; · iexact HO
    iexact Hr0
  iintro ⟨HO, Hz0, Hx0⟩
  ihave Hx0 := (Entails.of_eq (congrArg (owns (c : Thread nD τ) (edst 0) fullShare) hV1.symm)) $$ Hx0
  ihave Hx0 := (owns_halves (c : Thread nD τ) (edst 0) fullShare (V 1 c)).1 $$ Hx0
  icases Hx0 with ⟨Hx0l, Hx0r⟩
  sl_exec
  iapply (step_send V K c 1 2 rfl _ (dev4_eq c) rfl rfl rfl rfl) $$ [HO Ht1 Ha1 Hx0l Hl1]
  · isplitr; · iexact HR
    isplitl [HO]; · iexact HO
    isplitl [Ht1]; · iexact Ht1
    isplitl [Ha1]; · iexact Ha1
    isplitl [Hx0l]; · iexact Hx0l
    iexact Hl1
  iintro ⟨HO, Hs1⟩
  ihave Hx0 := (show (owns (c : Thread nD τ) (edst 0) fullShare.right (V 1 c) : sProp 𝕄) ⊢ _ from (owns_sq c xfM rs0 (fun _ => rfl) squeezes_S1x512x1024_S512x1024 fullShare.right (V 1 c)).1) $$ Hx0r
  icases Hx0 with ⟨%fx, %hfx, Hx0⟩
  sl_exec
  iapply (step_recv V K c 1 2 (by decide) rfl rfl) $$ [HO Hr1]
  · isplitr; · iexact HR
    isplitr; · iexact Hlev
    isplitl [HO]; · iexact HO
    iexact Hr1
  iintro ⟨HO, Hz1, Hx1⟩
  sl_exec
  have hx : second_spec.sl.v603 fx = V 1 c := (View.readAt_full _ _ _).trans hfx
  have hw (f : cc0_scratch4.ty.Contents (Elt F)) : View.readAt (Elt F) (Memref.whole cc0_scratch4).view
      (Rect.unit (s := S1024x1024) ![0, 0] S1024x1024.size inb_S1024x1024_S1024x1024_0_0).toLoadRect f = (Memref.whole cc0_scratch4).view.read (Elt F) f := View.readAt_full _ _ _
  have hw' (f : cc0_scratch5.ty.Contents (Elt F)) : View.readAt (Elt F) (Memref.whole cc0_scratch5).view
      (Rect.unit (s := S1024x1024) ![0, 0] S1024x1024.size inb_S1024x1024_S1024x1024_0_0).toLoadRect f = (Memref.whole cc0_scratch5).view.read (Elt F) f := View.readAt_full _ _ _
  have hQ : second_spec.sl.H12_1 f10 fx = [⟨allR, k0_pay38 (V 1 c) WQ⟩] := by
    delta second_spec.sl.H12_1
    simp -proj only [hx, hw, hf10]
  have hcol (h) := readCov_col (F := F) (Memref.whole cc0_scratch6).view (k0_pay38 (V 1 c) WQ) [] h
  have e0 : second_spec.sl.v610 f10 fx = colOf (k0_pay38 (V 1 c) WQ) 0 := by delta second_spec.sl.v610; rw [hQ]; exact hcol 0
  have e1 : second_spec.sl.v628 f10 fx = colOf (k0_pay38 (V 1 c) WQ) 1 := by delta second_spec.sl.v628; rw [hQ]; exact hcol 1
  have e2 : second_spec.sl.v646 f10 fx = colOf (k0_pay38 (V 1 c) WQ) 2 := by delta second_spec.sl.v646; rw [hQ]; exact hcol 2
  have e3 : second_spec.sl.v664 f10 fx = colOf (k0_pay38 (V 1 c) WQ) 3 := by delta second_spec.sl.v664; rw [hQ]; exact hcol 3
  have e4 : second_spec.sl.v682 f10 fx = colOf (k0_pay38 (V 1 c) WQ) 4 := by delta second_spec.sl.v682; rw [hQ]; exact hcol 4
  have e5 : second_spec.sl.v700 f10 fx = colOf (k0_pay38 (V 1 c) WQ) 5 := by delta second_spec.sl.v700; rw [hQ]; exact hcol 5
  have e6 : second_spec.sl.v718 f10 fx = colOf (k0_pay38 (V 1 c) WQ) 6 := by delta second_spec.sl.v718; rw [hQ]; exact hcol 6
  have e7 : second_spec.sl.v736 f10 fx = colOf (k0_pay38 (V 1 c) WQ) 7 := by delta second_spec.sl.v736; rw [hQ]; exact hcol 7
  have hA : second_spec.sl.v754 f10 f16 f17 fx = attnOf (V 1 c) WQ KK VV := by
    have hcols (H) := readCov_cols (F := F) (Memref.whole cc0_scratch7).view H
    refine Eq.trans ?_ (hcols _)
    delta second_spec.sl.v754
    refine congrArg (fun L => (Memref.whole cc0_scratch7).view.readCov L allR.toLoadRect) ?_
    delta second_spec.sl.H13_8 second_spec.sl.r second_spec.sl.r_1 second_spec.sl.r_2 second_spec.sl.r_3 second_spec.sl.r_4 second_spec.sl.cst_710
    simp -proj only [e0, e1, e2, e3, e4, e5, e6, e7,
      readAt_bank0 _ _ _ hf16, readAt_bank1 _ _ _ hf16, readAt_bank2 _ _ _ hf16, readAt_bank3 _ _ _ hf16,
      readAt_bank4 _ _ _ hf16, readAt_bank5 _ _ _ hf16, readAt_bank6 _ _ _ hf16, readAt_bank7 _ _ _ hf16,
      readAt_bank0 _ _ _ hf17, readAt_bank1 _ _ _ hf17, readAt_bank2 _ _ _ hf17, readAt_bank3 _ _ _ hf17,
      readAt_bank4 _ _ _ hf17, readAt_bank5 _ _ _ hf17, readAt_bank6 _ _ _ hf17, readAt_bank7 _ _ _ hf17]
    rfl
  ihave H8 := (slot_intro c paM rs0 (fun _ => rfl) squeezes_S1x512x1024_S512x1024 shapeCasts_S512x1024_S1x512x1024 fullShare (V 3 c) f8 _ []
    (by rw [hA, hw', hf11, hV1, hV3]; rfl)) $$ H8
  ihave Hx0 := (owns_sq c xfM rs0 (fun _ => rfl) squeezes_S1x512x1024_S512x1024 fullShare.right (V 1 c)).2 $$ [Hx0]
  · iexists fx; isplitr; · ipureintro; exact hfx
    iexact Hx0
  iapply Hκ
  isplitl [HO]; · iexact HO
  isplitl [Hs1]; · iexact Hs1
  isplitl [Hz0]; · iexact Hz0
  isplitl [Hz1]; · iexact Hz1
  isplitl [Hx0]; · iexact Hx0
  isplitl [Hx1]; · iexact Hx1
  isplitl [H8]; · iexact H8
  isplitl [H10]
  · iapply (whole_close c cc0_scratch4 _ _ _ hf10) $$ H10
  isplitl [H11]
  · iapply (whole_close c cc0_scratch5 _ _ _ hf11) $$ H11
  isplitl [H12]; · iexists _; iexact H12
  isplitl [H13]; · iexists _; iexact H13
  isplitl [H16]
  · iapply (whole_close c cc0_scratch10 _ _ _ hf16) $$ H16
  iapply (whole_close c cc0_scratch11 _ _ _ hf17) $$ H17

end Cert.Ring
-- ==== Proof.Stretch3.lean ====
/-
# The third stretch

The block of the device two before arrives; it and the first partial product are sent on, and its attention and
partial product are computed.
-/
module

public import proofs.«01_k».proof.Proof.Runs

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Sent F)

set_option maxHeartbeats 4000000 in
theorem third_spec (K : Dev nD × CIx → ℕ) (c : Dev nD) (WQ WO : Vec F S1024x1024 .bf16) (KK VV : Fin 8 → Vec F S1x2048x128 .bf16)
    (hV2 : V 2 c = V 1 (prv c)) (v7 : BitVec 32) (f12 f13 f8)
    {R : Type} (κ : Vec F S512x1024 .bf16 → Vec F S1024x1024 .bf16 → FVec F S512x1024 .f32 → DProg F R) {Q : R → sProp 𝕄} :
    iprop(recs V K ∗ levAts L lv ∗ owing c (owe c 2) ∗ recvWait 2 c
      ∗ sendTok 2 c ∗ atPos ER (sendCell 2 c) 0 ∅ 0 ∗ landing 2 (nxt c) ∗ sendTok 3 c ∗ atPos ER (sendCell 3 c) 0 ∅ 0 ∗ landing 3 (nxt c)
      ∗ owns (c : Thread nD τ) (edst 1) fullShare (V 1 (prv c)) ∗ owns (c : Thread nD τ) (esrc 3) fullShare (V 3 c)
      ∗ owns (c : Thread nD τ) (Memref.whole cc0_scratch4) fullShare WQ ∗ owns (c : Thread nD τ) (Memref.whole cc0_scratch5) fullShare WO
      ∗ hold c fullShare cc0_scratch6 f12 ∗ hold c fullShare cc0_scratch7 f13
      ∗ owns (c : Thread nD τ) (Memref.whole cc0_scratch10) fullShare (stacked KK) ∗ owns (c : Thread nD τ) (Memref.whole cc0_scratch11) fullShare (stacked VV)
      ∗ part c paM rs1 fullShare f8)
      ⊢ iprop(((owing c (owe c 4) ∗ sendWait 2 c ∗ sendWait 3 c ∗ semVal (recvCell 2 c) 0
          ∗ owns (c : Thread nD τ) (edst 1) fullShare.right (V 2 c) ∗ owns (c : Thread nD τ) (edst 2) fullShare (V 2 (prv c))
          ∗ owns (c : Thread nD τ) (slot1 paM) fullShare (partOf (attnOf (V 2 c) WQ KK VV) WO)
          ∗ owns (c : Thread nD τ) (Memref.whole cc0_scratch4) fullShare WQ ∗ owns (c : Thread nD τ) (Memref.whole cc0_scratch5) fullShare WO
          ∗ (∃ g, hold c fullShare cc0_scratch6 g) ∗ (∃ g, hold c fullShare cc0_scratch7 g)
          ∗ owns (c : Thread nD τ) (Memref.whole cc0_scratch10) fullShare (stacked KK) ∗ owns (c : Thread nD τ) (Memref.whole cc0_scratch11) fullShare (stacked VV))
          -∗ wp frame (wpE (defs₀ (F := F)) 𝒱₀ (c : Thread nD τ) none) Set.univ (κ (V 2 (prv c)) WQ (constant S512x1024 .f32 0x00000000#32)) Q)
        -∗ wp frame (wpE (defs₀ (F := F)) 𝒱₀ (c : Thread nD τ) none) Set.univ (run3 c v7 κ) Q) := by
  iintro ⟨#HR, #Hlev, HO, Hr2, Ht2, Ha2, Hl2, Ht3, Ha3, Hl3, Hx1, Hp, H10, H11, H12, H13, H16, H17, H8⟩ Hκ
  ihave H10 := (whole_open c cc0_scratch4 _ _) $$ H10
  icases H10 with ⟨%f10, %hf10, H10⟩
  ihave H11 := (whole_open c cc0_scratch5 _ _) $$ H11
  icases H11 with ⟨%f11, %hf11, H11⟩
  ihave H16 := (whole_open c cc0_scratch10 _ _) $$ H16
  icases H16 with ⟨%f16, %hf16, H16⟩
  ihave H17 := (whole_open c cc0_scratch11 _ _) $$ H17
  icases H17 with ⟨%f17, %hf17, H17⟩
  unfold run3 mid3
  simp only [k0_part28_eq_skeleton, k0_part29_eq_skeleton, k0_part30_eq_skeleton, k0_part31_eq_skeleton, k0_part32_eq_skeleton, k0_part33_eq_skeleton]
  ihave Hx1 := (Entails.of_eq (congrArg (owns (c : Thread nD τ) (edst 1) fullShare) hV2.symm)) $$ Hx1
  ihave Hx1 := (owns_halves (c : Thread nD τ) (edst 1) fullShare (V 2 c)).1 $$ Hx1
  icases Hx1 with ⟨Hx1l, Hx1r⟩
  sl_exec
  iapply (step_send V K c 2 3 rfl _ (dev5_eq c) rfl rfl rfl rfl) $$ [HO Ht2 Ha2 Hx1l Hl2]
  · isplitr; · iexact HR
    isplitl [HO]; · iexact HO
    isplitl [Ht2]; · iexact Ht2
    isplitl [Ha2]; · iexact Ha2
    isplitl [Hx1l]; · iexact Hx1l
    iexact Hl2
  iintro ⟨HO, Hs2⟩
  sl_exec
  iapply (step_send V K c 3 4 rfl _ (dev6_eq c) rfl rfl rfl rfl) $$ [HO Ht3 Ha3 Hp Hl3]
  · isplitr; · iexact HR
    isplitl [HO]; · iexact HO
    isplitl [Ht3]; · iexact Ht3
    isplitl [Ha3]; · iexact Ha3
    isplitl [Hp]; · iexact Hp
    iexact Hl3
  iintro ⟨HO, Hs3⟩
  ihave Hx1 := (show (owns (c : Thread nD τ) (edst 1) fullShare.right (V 2 c) : sProp 𝕄) ⊢ _ from (owns_sq c xfM rs1 (fun _ => rfl) squeezes_S1x512x1024_S512x1024 fullShare.right (V 2 c)).1) $$ Hx1r
  icases Hx1 with ⟨%fx, %hfx, Hx1⟩
  sl_exec
  iapply (step_recv V K c 2 4 (by decide) rfl rfl) $$ [HO Hr2]
  · isplitr; · iexact HR
    isplitr; · iexact Hlev
    isplitl [HO]; · iexact HO
    iexact Hr2
  iintro ⟨HO, Hz2, Hx2⟩
  ihave Hx2 := (show (owns (c : Thread nD τ) (edst 2) fullShare (V 2 (prv c)) : sProp 𝕄) ⊢ _ from (owns_sq c xfM rs2 (fun _ => rfl) squeezes_S1x512x1024_S512x1024 fullShare (V 2 (prv c))).1) $$ Hx2
  icases Hx2 with ⟨%fy, %hfy, Hx2⟩
  sl_exec
  have hx : third_spec.sl.v793 fx = V 2 c := (View.readAt_full _ _ _).trans hfx
  have hy : third_spec.sl.v963 fy = V 2 (prv c) := (View.readAt_full _ _ _).trans hfy
  have hw (f : cc0_scratch4.ty.Contents (Elt F)) : View.readAt (Elt F) (Memref.whole cc0_scratch4).view
      (Rect.unit (s := S1024x1024) ![0, 0] S1024x1024.size inb_S1024x1024_S1024x1024_0_0).toLoadRect f = (Memref.whole cc0_scratch4).view.read (Elt F) f := View.readAt_full _ _ _
  have hw' (f : cc0_scratch5.ty.Contents (Elt F)) : View.readAt (Elt F) (Memref.whole cc0_scratch5).view
      (Rect.unit (s := S1024x1024) ![0, 0] S1024x1024.size inb_S1024x1024_S1024x1024_0_0).toLoadRect f = (Memref.whole cc0_scratch5).view.read (Elt F) f := View.readAt_full _ _ _
  have hQ : third_spec.sl.H12_1 f10 fx = [⟨allR, k0_pay38 (V 2 c) WQ⟩] := by
    delta third_spec.sl.H12_1
    simp -proj only [hx, hw, hf10]
    rfl
  have hcol (h) := readCov_col (F := F) (Memref.whole cc0_scratch6).view (k0_pay38 (V 2 c) WQ) [] h
  have e0 : third_spec.sl.v800 f10 fx = colOf (k0_pay38 (V 2 c) WQ) 0 := by delta third_spec.sl.v800; rw [hQ]; exact hcol 0
  have e1 : third_spec.sl.v818 f10 fx = colOf (k0_pay38 (V 2 c) WQ) 1 := by delta third_spec.sl.v818; rw [hQ]; exact hcol 1
  have e2 : third_spec.sl.v836 f10 fx = colOf (k0_pay38 (V 2 c) WQ) 2 := by delta third_spec.sl.v836; rw [hQ]; exact hcol 2
  have e3 : third_spec.sl.v854 f10 fx = colOf (k0_pay38 (V 2 c) WQ) 3 := by delta third_spec.sl.v854; rw [hQ]; exact hcol 3
  have e4 : third_spec.sl.v872 f10 fx = colOf (k0_pay38 (V 2 c) WQ) 4 := by delta third_spec.sl.v872; rw [hQ]; exact hcol 4
  have e5 : third_spec.sl.v890 f10 fx = colOf (k0_pay38 (V 2 c) WQ) 5 := by delta third_spec.sl.v890; rw [hQ]; exact hcol 5
  have e6 : third_spec.sl.v908 f10 fx = colOf (k0_pay38 (V 2 c) WQ) 6 := by delta third_spec.sl.v908; rw [hQ]; exact hcol 6
  have e7 : third_spec.sl.v926 f10 fx = colOf (k0_pay38 (V 2 c) WQ) 7 := by delta third_spec.sl.v926; rw [hQ]; exact hcol 7
  have hA : third_spec.sl.v944 f10 f16 f17 fx = attnOf (V 2 c) WQ KK VV := by
    have hcols (H) := readCov_cols (F := F) (Memref.whole cc0_scratch7).view H
    refine Eq.trans ?_ (hcols _)
    delta third_spec.sl.v944
    refine congrArg (fun L => (Memref.whole cc0_scratch7).view.readCov L allR.toLoadRect) ?_
    delta third_spec.sl.H13_8 third_spec.sl.r third_spec.sl.r_1 third_spec.sl.r_2 third_spec.sl.r_3
    simp -proj only [e0, e1, e2, e3, e4, e5, e6, e7,
      readAt_bank0 _ _ _ hf16, readAt_bank1 _ _ _ hf16, readAt_bank2 _ _ _ hf16, readAt_bank3 _ _ _ hf16,
      readAt_bank4 _ _ _ hf16, readAt_bank5 _ _ _ hf16, readAt_bank6 _ _ _ hf16, readAt_bank7 _ _ _ hf16,
      readAt_bank0 _ _ _ hf17, readAt_bank1 _ _ _ hf17, readAt_bank2 _ _ _ hf17, readAt_bank3 _ _ _ hf17,
      readAt_bank4 _ _ _ hf17, readAt_bank5 _ _ _ hf17, readAt_bank6 _ _ _ hf17, readAt_bank7 _ _ _ hf17]
    rfl
  ihave H8 := (slot_intro c paM rs1 (fun _ => rfl) squeezes_S1x512x1024_S512x1024 shapeCasts_S512x1024_S1x512x1024 fullShare
    (partOf (attnOf (V 2 c) WQ KK VV) WO) f8 _ [] (by rw [hA, hw', hf11]; rfl)) $$ H8
  ihave Hx1 := (owns_sq c xfM rs1 (fun _ => rfl) squeezes_S1x512x1024_S512x1024 fullShare.right (V 2 c)).2 $$ [Hx1]
  · iexists fx; isplitr; · ipureintro; exact hfx
    iexact Hx1
  ihave Hx2 := (owns_sq c xfM rs2 (fun _ => rfl) squeezes_S1x512x1024_S512x1024 fullShare (V 2 (prv c))).2 $$ [Hx2]
  · iexists fy; isplitr; · ipureintro; exact hfy
    iexact Hx2
  have hr4 : third_spec.sl.r_4 f10 = WQ := by delta third_spec.sl.r_4; rw [hw, hf10]
  rw [hy, hr4]
  iapply Hκ
  isplitl [HO]; · iexact HO
  isplitl [Hs2]; · iexact Hs2
  isplitl [Hs3]; · iexact Hs3
  isplitl [Hz2]; · iexact Hz2
  isplitl [Hx1]; · iexact Hx1
  isplitl [Hx2]; · iexact Hx2
  isplitl [H8]; · iexact H8
  isplitl [H10]
  · iapply (whole_close c cc0_scratch4 _ _ _ hf10) $$ H10
  isplitl [H11]
  · iapply (whole_close c cc0_scratch5 _ _ _ hf11) $$ H11
  isplitl [H12]; · iexists _; iexact H12
  isplitl [H13]; · iexists _; iexact H13
  isplitl [H16]
  · iapply (whole_close c cc0_scratch10 _ _ _ hf16) $$ H16
  iapply (whole_close c cc0_scratch11 _ _ _ hf17) $$ H17

end Cert.Ring
-- ==== Proof.Stretch4.lean ====
/-
# The fourth stretch

The block of the device three before goes through its attention; meanwhile the second partial product, with the first one
received added, is sent on.
-/
module

public import proofs.«01_k».proof.Proof.Runs

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Sent F)

set_option maxHeartbeats 4000000 in
theorem fourth_spec (K : Dev nD × CIx → ℕ) (c : Dev nD) (WQ WO : Vec F S1024x1024 .bf16) (KK VV : Fin 8 → Vec F S1x2048x128 .bf16)
    (x3 p2 : Vec F S512x1024 .bf16) (hV4 : V 4 c = sumOf p2 (V 3 (prv c))) (v7 : BitVec 32) (f12 f13)
    {R : Type} (κ : FVec F S128x1024 .bf16 → DProg F R) {Q : R → sProp 𝕄} :
    iprop(recs V K ∗ levAts L lv ∗ owing c (owe c 4) ∗ recvWait 3 c ∗ recvWait 4 c
      ∗ sendTok 4 c ∗ atPos ER (sendCell 4 c) 0 ∅ 0 ∗ landing 4 (nxt c)
      ∗ owns (c : Thread nD τ) (slot1 paM) fullShare p2
      ∗ owns (c : Thread nD τ) (Memref.whole cc0_scratch4) fullShare WQ ∗ owns (c : Thread nD τ) (Memref.whole cc0_scratch5) fullShare WO
      ∗ hold c fullShare cc0_scratch6 f12 ∗ hold c fullShare cc0_scratch7 f13
      ∗ owns (c : Thread nD τ) (Memref.whole cc0_scratch10) fullShare (stacked KK) ∗ owns (c : Thread nD τ) (Memref.whole cc0_scratch11) fullShare (stacked VV))
      ⊢ iprop(((owing c (owe c 5) ∗ sendWait 4 c ∗ semVal (recvCell 3 c) 0 ∗ semVal (recvCell 4 c) 0
          ∗ owns (c : Thread nD τ) (edst 3) fullShare (V 3 (prv c)) ∗ owns (c : Thread nD τ) (edst 4) fullShare (V 4 (prv c))
          ∗ owns (c : Thread nD τ) (Memref.whole cc0_scratch4) fullShare WQ ∗ owns (c : Thread nD τ) (Memref.whole cc0_scratch5) fullShare WO
          ∗ (∃ g, hold c fullShare cc0_scratch6 g) ∗ owns (c : Thread nD τ) (Memref.whole cc0_scratch7) fullShare (attnOf x3 WQ KK VV)
          ∗ owns (c : Thread nD τ) (Memref.whole cc0_scratch10) fullShare (stacked KK) ∗ owns (c : Thread nD τ) (Memref.whole cc0_scratch11) fullShare (stacked VV))
          -∗ wp frame (wpE (defs₀ (F := F)) 𝒱₀ (c : Thread nD τ) none) Set.univ (κ (lastOf (attnOf x3 WQ KK VV) WO (V 4 (prv c)) 0)) Q)
        -∗ wp frame (wpE (defs₀ (F := F)) 𝒱₀ (c : Thread nD τ) none) Set.univ (run4 c v7 x3 WQ (constant S512x1024 .f32 0x00000000#32) κ) Q) := by
  iintro ⟨#HR, #Hlev, HO, Hr3, Hr4, Ht4, Ha4, Hl4, Hp, H10, H11, H12, H13, H16, H17⟩ Hκ
  ihave H10 := (whole_open c cc0_scratch4 _ _) $$ H10
  icases H10 with ⟨%f10, %hf10, H10⟩
  ihave H11 := (whole_open c cc0_scratch5 _ _) $$ H11
  icases H11 with ⟨%f11, %hf11, H11⟩
  ihave H16 := (whole_open c cc0_scratch10 _ _) $$ H16
  icases H16 with ⟨%f16, %hf16, H16⟩
  ihave H17 := (whole_open c cc0_scratch11 _ _) $$ H17
  icases H17 with ⟨%f17, %hf17, H17⟩
  ihave Hp := (slot_open c paM rs1 (fun _ => rfl) squeezes_S1x512x1024_S512x1024 shapeCasts_S512x1024_S1x512x1024 fullShare p2) $$ Hp
  icases Hp with ⟨%fp, %hfp, Hp⟩
  unfold run4 mid4
  simp only [k0_part34_eq_skeleton, k0_part35_eq_skeleton, k0_part36_eq_skeleton, k0_part37_eq_skeleton, k0_part38_eq_skeleton, k0_part39_eq_skeleton]
  sl_exec
  iapply (step_recv V K c 3 4 (by decide) rfl rfl) $$ [HO Hr3]
  · isplitr; · iexact HR
    isplitr; · iexact Hlev
    isplitl [HO]; · iexact HO
    iexact Hr3
  iintro ⟨HO, Hz3, Hx3⟩
  ihave Hx3 := (show (owns (c : Thread nD τ) (edst 3) fullShare (V 3 (prv c)) : sProp 𝕄) ⊢ _ from (slot_open c rrM rs0 (fun _ => rfl) squeezes_S1x512x1024_S512x1024 shapeCasts_S512x1024_S1x512x1024 fullShare (V 3 (prv c)))) $$ Hx3
  icases Hx3 with ⟨%fr, %hfr, Hx3⟩
  sl_exec
  ihave Hp := (slot_intro c paM rs1 (fun _ => rfl) squeezes_S1x512x1024_S512x1024 shapeCasts_S512x1024_S1x512x1024 fullShare
    (sumOf p2 (V 3 (prv c))) fp _ [] (by exact sumOf_cast _ _)) $$ Hp
  ihave Hp := (show (owns (c : Thread nD τ) (slot1 paM) fullShare (sumOf p2 (V 3 (prv c))) : sProp 𝕄) ⊢ owns (c : Thread nD τ) (esrc 4) fullShare (V 4 c)
    from Entails.of_eq (congrArg (owns (c : Thread nD τ) (esrc 4) fullShare) hV4.symm)) $$ Hp
  iapply (step_send V K c 4 5 rfl _ (dev7_eq c) rfl rfl rfl rfl) $$ [HO Ht4 Ha4 Hp Hl4]
  · isplitr; · iexact HR
    isplitl [HO]; · iexact HO
    isplitl [Ht4]; · iexact Ht4
    isplitl [Ha4]; · iexact Ha4
    isplitl [Hp]; · iexact Hp
    iexact Hl4
  iintro ⟨HO, Hs4⟩
  sl_exec
  iapply (step_recv V K c 4 5 (by decide) rfl rfl) $$ [HO Hr4]
  · isplitr; · iexact HR
    isplitr; · iexact Hlev
    isplitl [HO]; · iexact HO
    iexact Hr4
  iintro ⟨HO, Hz4, Hx4⟩
  ihave Hx4 := (show (owns (c : Thread nD τ) (edst 4) fullShare (V 4 (prv c)) : sProp 𝕄) ⊢ _ from (slot_open c rrM rs1 (fun _ => rfl) squeezes_S1x512x1024_S512x1024 shapeCasts_S512x1024_S1x512x1024 fullShare (V 4 (prv c)))) $$ Hx4
  icases Hx4 with ⟨%fs, %hfs, Hx4⟩
  sl_exec
  have hw (f : cc0_scratch4.ty.Contents (Elt F)) : View.readAt (Elt F) (Memref.whole cc0_scratch4).view
      (Rect.unit (s := S1024x1024) ![0, 0] S1024x1024.size inb_S1024x1024_S1024x1024_0_0).toLoadRect f = (Memref.whole cc0_scratch4).view.read (Elt F) f := View.readAt_full _ _ _
  have hw' (f : cc0_scratch5.ty.Contents (Elt F)) : View.readAt (Elt F) (Memref.whole cc0_scratch5).view
      (Rect.unit (s := S1024x1024) ![0, 0] S1024x1024.size inb_S1024x1024_S1024x1024_0_0).toLoadRect f = (Memref.whole cc0_scratch5).view.read (Elt F) f := View.readAt_full _ _ _
  have hQ : fourth_spec.sl.H12_1 WQ x3 = [⟨allR, k0_pay38 x3 WQ⟩] := by delta fourth_spec.sl.H12_1; rfl
  have hcol (h) := readCov_col (F := F) (Memref.whole cc0_scratch6).view (k0_pay38 x3 WQ) [] h
  have e0 : fourth_spec.sl.v970 WQ x3 = colOf (k0_pay38 x3 WQ) 0 := by delta fourth_spec.sl.v970; rw [hQ]; exact hcol 0
  have e1 : fourth_spec.sl.v988 WQ x3 = colOf (k0_pay38 x3 WQ) 1 := by delta fourth_spec.sl.v988; rw [hQ]; exact hcol 1
  have e2 : fourth_spec.sl.v1006 WQ x3 = colOf (k0_pay38 x3 WQ) 2 := by delta fourth_spec.sl.v1006; rw [hQ]; exact hcol 2
  have e3 : fourth_spec.sl.v1024 WQ x3 = colOf (k0_pay38 x3 WQ) 3 := by delta fourth_spec.sl.v1024; rw [hQ]; exact hcol 3
  have e4 : fourth_spec.sl.v1071 WQ x3 = colOf (k0_pay38 x3 WQ) 4 := by delta fourth_spec.sl.v1071; rw [hQ]; exact hcol 4
  have e5 : fourth_spec.sl.v1089 WQ x3 = colOf (k0_pay38 x3 WQ) 5 := by delta fourth_spec.sl.v1089; rw [hQ]; exact hcol 5
  have e6 : fourth_spec.sl.v1107 WQ x3 = colOf (k0_pay38 x3 WQ) 6 := by delta fourth_spec.sl.v1107; rw [hQ]; exact hcol 6
  have e7 : fourth_spec.sl.v1125 WQ x3 = colOf (k0_pay38 x3 WQ) 7 := by delta fourth_spec.sl.v1125; rw [hQ]; exact hcol 7
  have hA : fourth_spec.sl.v1151 WQ x3 f16 f17 = rowsOf (attnOf x3 WQ KK VV) 0 := by
    have hrow := readCov_row (F := F) (Memref.whole cc0_scratch7).view (fun h => k0_pay8 (colOf (k0_pay38 x3 WQ) h) (KK h) (VV h)) 0
    refine Eq.trans ?_ hrow
    delta fourth_spec.sl.v1151
    refine congrArg (fun L => (Memref.whole cc0_scratch7).view.readCov L (rowR 0).toLoadRect) ?_
    delta fourth_spec.sl.r fourth_spec.sl.r_1 fourth_spec.sl.r_2 fourth_spec.sl.r_3 fourth_spec.sl.r_4 fourth_spec.sl.r_5 fourth_spec.sl.r_6
    simp -proj only [e0, e1, e2, e3, e4, e5, e6, e7,
      readAt_bank0 _ _ _ hf16, readAt_bank1 _ _ _ hf16, readAt_bank2 _ _ _ hf16, readAt_bank3 _ _ _ hf16,
      readAt_bank4 _ _ _ hf16, readAt_bank5 _ _ _ hf16, readAt_bank6 _ _ _ hf16, readAt_bank7 _ _ _ hf16,
      readAt_bank0 _ _ _ hf17, readAt_bank1 _ _ _ hf17, readAt_bank2 _ _ _ hf17, readAt_bank3 _ _ _ hf17,
      readAt_bank4 _ _ _ hf17, readAt_bank5 _ _ _ hf17, readAt_bank6 _ _ _ hf17, readAt_bank7 _ _ _ hf17]
    rfl
  ihave H13 := (cols_intro c f13 _ (fun h => k0_pay8 (colOf (k0_pay38 x3 WQ) h) (KK h) (VV h)) ?_) $$ H13
  · delta fourth_spec.sl.r fourth_spec.sl.r_1 fourth_spec.sl.r_2 fourth_spec.sl.r_3 fourth_spec.sl.r_4 fourth_spec.sl.r_5 fourth_spec.sl.r_6
    simp -proj only [e0, e1, e2, e3, e4, e5, e6, e7,
      readAt_bank0 _ _ _ hf16, readAt_bank1 _ _ _ hf16, readAt_bank2 _ _ _ hf16, readAt_bank3 _ _ _ hf16,
      readAt_bank4 _ _ _ hf16, readAt_bank5 _ _ _ hf16, readAt_bank6 _ _ _ hf16, readAt_bank7 _ _ _ hf16,
      readAt_bank0 _ _ _ hf17, readAt_bank1 _ _ _ hf17, readAt_bank2 _ _ _ hf17, readAt_bank3 _ _ _ hf17,
      readAt_bank4 _ _ _ hf17, readAt_bank5 _ _ _ hf17, readAt_bank6 _ _ _ hf17, readAt_bank7 _ _ _ hf17]
    rfl
  have hr7 : fourth_spec.sl.r_7 WQ x3 f11 f16 f17 fs = lastOf (attnOf x3 WQ KK VV) WO (V 4 (prv c)) 0 := by
    delta fourth_spec.sl.r_7
    rw [hA, hw', hf11]
    exact congrArg (k0_pay83 _ _) (readAt_slotRow rrM.view fs _ hfs 0)
  rw [hr7]
  ihave Hx3 := (owns_slot c rrM rs0 (fun _ => rfl) squeezes_S1x512x1024_S512x1024 shapeCasts_S512x1024_S1x512x1024 fullShare (V 3 (prv c))).2 $$ [Hx3]
  · iexists fr; isplitr; · ipureintro; exact hfr
    iexact Hx3
  ihave Hx4 := (owns_slot c rrM rs1 (fun _ => rfl) squeezes_S1x512x1024_S512x1024 shapeCasts_S512x1024_S1x512x1024 fullShare (V 4 (prv c))).2 $$ [Hx4]
  · iexists fs; isplitr; · ipureintro; exact hfs
    iexact Hx4
  iapply Hκ
  isplitl [HO]; · iexact HO
  isplitl [Hs4]; · iexact Hs4
  isplitl [Hz3]; · iexact Hz3
  isplitl [Hz4]; · iexact Hz4
  isplitl [Hx3]; · iexact Hx3
  isplitl [Hx4]; · iexact Hx4
  isplitl [H10]
  · iapply (whole_close c cc0_scratch4 _ _ _ hf10) $$ H10
  isplitl [H11]
  · iapply (whole_close c cc0_scratch5 _ _ _ hf11) $$ H11
  isplitl [H12]; · iexists _; iexact H12
  isplitl [H13]; · iexact H13
  isplitl [H16]
  · iapply (whole_close c cc0_scratch10 _ _ _ hf16) $$ H16
  iapply (whole_close c cc0_scratch11 _ _ _ hf17) $$ H17

end Cert.Ring
-- ==== Proof.Stretch5.lean ====
/-
# The fifth stretch

The last sum goes on in four chunks of rows; the four chunks received are added to the device's own product, and the copies
sent before are waited for.
-/
module

public import proofs.«01_k».proof.Proof.Runs

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Sent F)

/-- The result's matrix lies over its whole buffer. -/
theorem outM_set : outM.view.set = (Memref.whole cc0_stg3_0).view.set := by
  refine (Finset.eq_univ_of_card _ ?_ : outM.view.set = Finset.univ).trans (View.set_whole cc0_stg3_0).symm
  rw [View.card_set]
  exact (show Shape.numel S512x1024 = Shape.numel S1x512x1024 by decide).trans (Shape.card_idx S1x512x1024).symm

/-- The four chunks of the last sum a device sends on. -/
def chunks (d : Dev nD) : Fin 4 → Vec F S128x1024 .bf16
  | 0 => V 5 d | 1 => V 6 d | 2 => V 7 d | 3 => V 8 d

/-- The result after its four row stores. -/
theorem rows_intro (c : Dev nD) (f : outM.view.ty.Contents (Elt F)) (L) (P : Fin 4 → Vec F S128x1024 .f32) (h : L = rowsL P) :
    (outM.view.loc (c : Thread nD τ) ↦[outM.view.set]{fullShare} outM.view.writes (Elt F) f L : sProp 𝕄)
      ⊢ owns (c : Thread nD τ) outM fullShare (underEach P) := by
  subst h
  rw [← read_rows outM.view f P]
  exact owns_intro _ _ _ _

set_option maxHeartbeats 4000000 in
theorem fifth_spec (K : Dev nD × CIx → ℕ) (c : Dev nD) (WO : Vec F S1024x1024 .bf16)
    (AT : Vec F S512x1024 .bf16) (own : Vec F S512x1024 .f32) (hV : ∀ k, chunks V c k = lastOf AT WO (V 4 (prv c)) k) (v7 : BitVec 32)
    (f8 : Fin 4 → paM.view.ty.Contents (Elt F)) (fo : outM.view.ty.Contents (Elt F)) (ho : outM.view.read (Elt F) fo = own)
    {R : Type} (κ : DProg F R) {Q : R → sProp 𝕄} :
    iprop(recs V K ∗ levAts L lv ∗ owing c (owe c 5)
      ∗ recvWait 5 c ∗ recvWait 6 c ∗ recvWait 7 c ∗ recvWait 8 c
      ∗ sendTok 5 c ∗ atPos ER (sendCell 5 c) 0 ∅ 0 ∗ landing 5 (nxt c)
      ∗ sendTok 6 c ∗ atPos ER (sendCell 6 c) 0 ∅ 0 ∗ landing 6 (nxt c)
      ∗ sendTok 7 c ∗ atPos ER (sendCell 7 c) 0 ∅ 0 ∗ landing 7 (nxt c)
      ∗ sendTok 8 c ∗ atPos ER (sendCell 8 c) 0 ∅ 0 ∗ landing 8 (nxt c)
      ∗ sendWait 0 c ∗ sendWait 1 c ∗ sendWait 2 c ∗ sendWait 3 c ∗ sendWait 4 c
      ∗ owns (c : Thread nD τ) (edst 4) fullShare (V 4 (prv c))
      ∗ owns (c : Thread nD τ) (Memref.whole cc0_scratch5) fullShare WO ∗ owns (c : Thread nD τ) (Memref.whole cc0_scratch7) fullShare AT
      ∗ part c paM rc0 fullShare (f8 0) ∗ part c paM rc1 fullShare (f8 1) ∗ part c paM rc2 fullShare (f8 2) ∗ part c paM rc3 fullShare (f8 3)
      ∗ hold c fullShare cc0_stg3_0 fo)
      ⊢ iprop(((owing c (owe c 9) ∗ semVal (recvCell 5 c) 0 ∗ semVal (recvCell 6 c) 0 ∗ semVal (recvCell 7 c) 0 ∗ semVal (recvCell 8 c) 0
          ∗ semVal (sendCell 0 c) 0 ∗ semVal (sendCell 1 c) 0 ∗ semVal (sendCell 2 c) 0 ∗ semVal (sendCell 3 c) 0 ∗ semVal (sendCell 4 c) 0 ∗ semVal (sendCell 5 c) 0
          ∗ sendWait 6 c ∗ sendWait 7 c ∗ sendWait 8 c
          ∗ owns (c : Thread nD τ) (esrc 0) (eshare 0) (V 0 c) ∗ owns (c : Thread nD τ) (esrc 1) (eshare 1) (V 1 c) ∗ owns (c : Thread nD τ) (esrc 2) (eshare 2) (V 2 c) ∗ owns (c : Thread nD τ) (esrc 3) (eshare 3) (V 3 c) ∗ owns (c : Thread nD τ) (esrc 4) (eshare 4) (V 4 c) ∗ owns (c : Thread nD τ) (esrc 5) (eshare 5) (V 5 c)
          ∗ owns (c : Thread nD τ) (edst 4) fullShare (V 4 (prv c)) ∗ owns (c : Thread nD τ) (edst 5) fullShare (V 5 (prv c)) ∗ owns (c : Thread nD τ) (edst 6) fullShare (V 6 (prv c)) ∗ owns (c : Thread nD τ) (edst 7) fullShare (V 7 (prv c)) ∗ owns (c : Thread nD τ) (edst 8) fullShare (V 8 (prv c))
          ∗ owns (c : Thread nD τ) (Memref.whole cc0_scratch5) fullShare WO ∗ owns (c : Thread nD τ) (Memref.whole cc0_scratch7) fullShare AT
          ∗ owns (c : Thread nD τ) outM fullShare (resultOf own (chunks V (prv c))))
          -∗ wp frame (wpE (defs₀ (F := F)) 𝒱₀ (c : Thread nD τ) none) Set.univ κ Q)
        -∗ wp frame (wpE (defs₀ (F := F)) 𝒱₀ (c : Thread nD τ) none) Set.univ (run5 c v7 (lastOf AT WO (V 4 (prv c)) 0) κ) Q) := by
  iintro ⟨#HR, #Hlev, HO, Hr5, Hr6, Hr7, Hr8, Ht5, Ha5, Hl5, Ht6, Ha6, Hl6, Ht7, Ha7, Hl7, Ht8, Ha8, Hl8, Hs0, Hs1, Hs2, Hs3, Hs4, Hx4, H11, H13, Hp0, Hp1, Hp2, Hp3, HOUT⟩ Hκ
  ihave H11 := (whole_open c cc0_scratch5 _ _) $$ H11
  icases H11 with ⟨%f11, %hf11, H11⟩
  ihave H13 := (whole_open c cc0_scratch7 _ _) $$ H13
  icases H13 with ⟨%f13, %hf13, H13⟩
  ihave Hx4 := (show (owns (c : Thread nD τ) (edst 4) fullShare (V 4 (prv c)) : sProp 𝕄) ⊢ _ from (slot_open c rrM rs1 (fun _ => rfl) squeezes_S1x512x1024_S512x1024 shapeCasts_S512x1024_S1x512x1024 fullShare (V 4 (prv c)))) $$ Hx4
  icases Hx4 with ⟨%fs, %hfs, Hx4⟩
  unfold run5 mid5
  simp only [k0_part40_eq_skeleton, k0_part41_eq_skeleton, k0_part42_eq_skeleton, k0_part43_eq_skeleton, k0_part44_eq_skeleton, k0_part45_eq_skeleton, k0_part46_eq_skeleton, k0_part47_eq_skeleton]
  sl_exec
  have hp0 : k0_pay84 (lastOf AT WO (V 4 (prv c)) 0) = shapeCast S1x128x1024 (lastOf AT WO (V 4 (prv c)) 0) shapeCasts_S128x1024_S1x128x1024 := rfl
  ihave Hp0 := (slot_intro c paM rc0 (fun _ => rfl) squeezes_S1x128x1024_S128x1024 shapeCasts_S128x1024_S1x128x1024 fullShare (lastOf AT WO (V 4 (prv c)) 0) (f8 0) _ [] (by exact hp0)) $$ Hp0
  ihave Hp0 := (show (owns (c : Thread nD τ) (chunk0 paM) fullShare (lastOf AT WO (V 4 (prv c)) 0) : sProp 𝕄) ⊢ owns (c : Thread nD τ) (esrc 5) fullShare (V 5 c)
    from Entails.of_eq (congrArg (owns (c : Thread nD τ) (esrc 5) fullShare) (hV 0).symm)) $$ Hp0
  iapply (step_send V K c 5 6 rfl _ (dev8_eq c) rfl rfl rfl rfl) $$ [HO Ht5 Ha5 Hp0 Hl5]
  · isplitr; · iexact HR
    isplitl [HO]; · iexact HO
    isplitl [Ht5]; · iexact Ht5
    isplitl [Ha5]; · iexact Ha5
    isplitl [Hp0]; · iexact Hp0
    iexact Hl5
  iintro ⟨HO, Hs5⟩
  sl_exec
  have hA (k : Fin 4) : View.readAt (Elt F) (Memref.whole cc0_scratch7).view (rowR k).toLoadRect f13 = rowsOf AT k := by rw [← hf13]; rfl
  have hp1 : k0_pay85 (View.readAt (Elt F) (Memref.whole cc0_scratch7).view
        (Rect.unit (s := S512x1024) ![128, 0] S128x1024.size inb_S512x1024_S128x1024_128_0).toLoadRect f13)
      (View.readAt (Elt F) (Memref.whole cc0_scratch5).view (Rect.unit (s := S1024x1024) ![0, 0] S1024x1024.size inb_S1024x1024_S1024x1024_0_0).toLoadRect f11)
      (View.readAt (Elt F) rrM.view (Rect.unit (s := S3x512x1024) ![1, 128, 0] S1x128x1024.size inb_S3x512x1024_S1x128x1024_1_128_0).toLoadRect fs)
      = shapeCast S1x128x1024 (lastOf AT WO (V 4 (prv c)) 1) shapeCasts_S128x1024_S1x128x1024 := by
    rw [show View.readAt (Elt F) (Memref.whole cc0_scratch5).view
      (Rect.unit (s := S1024x1024) ![0, 0] S1024x1024.size inb_S1024x1024_S1024x1024_0_0).toLoadRect f11 = WO from (View.readAt_full _ _ _).trans hf11]
    exact congr (congrFun (congrArg k0_pay85 (hA 1)) _) (readAt_slotRow rrM.view fs _ hfs 1)
  ihave Hp1 := (slot_intro c paM rc1 (fun _ => rfl) squeezes_S1x128x1024_S128x1024 shapeCasts_S128x1024_S1x128x1024 fullShare (lastOf AT WO (V 4 (prv c)) 1) (f8 1) _ [] (by exact hp1)) $$ Hp1
  ihave Hp1 := (show (owns (c : Thread nD τ) (chunk1 paM) fullShare (lastOf AT WO (V 4 (prv c)) 1) : sProp 𝕄) ⊢ owns (c : Thread nD τ) (esrc 6) fullShare (V 6 c)
    from Entails.of_eq (congrArg (owns (c : Thread nD τ) (esrc 6) fullShare) (hV 1).symm)) $$ Hp1
  iapply (step_send V K c 6 7 rfl _ (dev9_eq c) rfl rfl rfl rfl) $$ [HO Ht6 Ha6 Hp1 Hl6]
  · isplitr; · iexact HR
    isplitl [HO]; · iexact HO
    isplitl [Ht6]; · iexact Ht6
    isplitl [Ha6]; · iexact Ha6
    isplitl [Hp1]; · iexact Hp1
    iexact Hl6
  iintro ⟨HO, Hs6⟩
  sl_exec
  have hp2 : k0_pay86 (View.readAt (Elt F) (Memref.whole cc0_scratch7).view
        (Rect.unit (s := S512x1024) ![256, 0] S128x1024.size inb_S512x1024_S128x1024_256_0).toLoadRect f13)
      (View.readAt (Elt F) (Memref.whole cc0_scratch5).view (Rect.unit (s := S1024x1024) ![0, 0] S1024x1024.size inb_S1024x1024_S1024x1024_0_0).toLoadRect f11)
      (View.readAt (Elt F) rrM.view (Rect.unit (s := S3x512x1024) ![1, 256, 0] S1x128x1024.size inb_S3x512x1024_S1x128x1024_1_256_0).toLoadRect fs)
      = shapeCast S1x128x1024 (lastOf AT WO (V 4 (prv c)) 2) shapeCasts_S128x1024_S1x128x1024 := by
    rw [show View.readAt (Elt F) (Memref.whole cc0_scratch5).view
      (Rect.unit (s := S1024x1024) ![0, 0] S1024x1024.size inb_S1024x1024_S1024x1024_0_0).toLoadRect f11 = WO from (View.readAt_full _ _ _).trans hf11]
    exact congr (congrFun (congrArg k0_pay86 (hA 2)) _) (readAt_slotRow rrM.view fs _ hfs 2)
  ihave Hp2 := (slot_intro c paM rc2 (fun _ => rfl) squeezes_S1x128x1024_S128x1024 shapeCasts_S128x1024_S1x128x1024 fullShare (lastOf AT WO (V 4 (prv c)) 2) (f8 2) _ [] (by exact hp2)) $$ Hp2
  ihave Hp2 := (show (owns (c : Thread nD τ) (chunk2 paM) fullShare (lastOf AT WO (V 4 (prv c)) 2) : sProp 𝕄) ⊢ owns (c : Thread nD τ) (esrc 7) fullShare (V 7 c)
    from Entails.of_eq (congrArg (owns (c : Thread nD τ) (esrc 7) fullShare) (hV 2).symm)) $$ Hp2
  iapply (step_send V K c 7 8 rfl _ (dev10_eq c) rfl rfl rfl rfl) $$ [HO Ht7 Ha7 Hp2 Hl7]
  · isplitr; · iexact HR
    isplitl [HO]; · iexact HO
    isplitl [Ht7]; · iexact Ht7
    isplitl [Ha7]; · iexact Ha7
    isplitl [Hp2]; · iexact Hp2
    iexact Hl7
  iintro ⟨HO, Hs7⟩
  sl_exec
  have hp3 : k0_pay87 (View.readAt (Elt F) (Memref.whole cc0_scratch7).view
        (Rect.unit (s := S512x1024) ![384, 0] S128x1024.size inb_S512x1024_S128x1024_384_0).toLoadRect f13)
      (View.readAt (Elt F) (Memref.whole cc0_scratch5).view (Rect.unit (s := S1024x1024) ![0, 0] S1024x1024.size inb_S1024x1024_S1024x1024_0_0).toLoadRect f11)
      (View.readAt (Elt F) rrM.view (Rect.unit (s := S3x512x1024) ![1, 384, 0] S1x128x1024.size inb_S3x512x1024_S1x128x1024_1_384_0).toLoadRect fs)
      = shapeCast S1x128x1024 (lastOf AT WO (V 4 (prv c)) 3) shapeCasts_S128x1024_S1x128x1024 := by
    rw [show View.readAt (Elt F) (Memref.whole cc0_scratch5).view
      (Rect.unit (s := S1024x1024) ![0, 0] S1024x1024.size inb_S1024x1024_S1024x1024_0_0).toLoadRect f11 = WO from (View.readAt_full _ _ _).trans hf11]
    exact congr (congrFun (congrArg k0_pay87 (hA 3)) _) (readAt_slotRow rrM.view fs _ hfs 3)
  ihave Hp3 := (slot_intro c paM rc3 (fun _ => rfl) squeezes_S1x128x1024_S128x1024 shapeCasts_S128x1024_S1x128x1024 fullShare (lastOf AT WO (V 4 (prv c)) 3) (f8 3) _ [] (by exact hp3)) $$ Hp3
  ihave Hp3 := (show (owns (c : Thread nD τ) (chunk3 paM) fullShare (lastOf AT WO (V 4 (prv c)) 3) : sProp 𝕄) ⊢ owns (c : Thread nD τ) (esrc 8) fullShare (V 8 c)
    from Entails.of_eq (congrArg (owns (c : Thread nD τ) (esrc 8) fullShare) (hV 3).symm)) $$ Hp3
  iapply (step_send V K c 8 9 rfl _ (dev11_eq c) rfl rfl rfl rfl) $$ [HO Ht8 Ha8 Hp3 Hl8]
  · isplitr; · iexact HR
    isplitl [HO]; · iexact HO
    isplitl [Ht8]; · iexact Ht8
    isplitl [Ha8]; · iexact Ha8
    isplitl [Hp3]; · iexact Hp3
    iexact Hl8
  iintro ⟨HO, Hs8⟩
  sl_exec
  iapply (step_recv V K c 5 9 (by decide) rfl rfl) $$ [HO Hr5]
  · isplitr; · iexact HR
    isplitr; · iexact Hlev
    isplitl [HO]; · iexact HO
    iexact Hr5
  iintro ⟨HO, Hz5, Hx5⟩
  ihave Hx5 := (show (owns (c : Thread nD τ) (edst 5) fullShare (V 5 (prv c)) : sProp 𝕄) ⊢ _ from (slot_open c rrM rc0 (fun _ => rfl) squeezes_S1x128x1024_S128x1024 shapeCasts_S128x1024_S1x128x1024 fullShare (V 5 (prv c)))) $$ Hx5
  icases Hx5 with ⟨%fx0, %hfx0, Hx5⟩
  ihave HOUT := (show hold c fullShare cc0_stg3_0 fo ⊢ (outM.view.loc (c : Thread nD τ) ↦[outM.view.set]{fullShare} fo : sProp 𝕄) from Entails.of_eq (by rw [outM_set])) $$ HOUT
  sl_exec
  iapply (step_recv V K c 6 9 (by decide) rfl rfl) $$ [HO Hr6]
  · isplitr; · iexact HR
    isplitr; · iexact Hlev
    isplitl [HO]; · iexact HO
    iexact Hr6
  iintro ⟨HO, Hz6, Hx6⟩
  ihave Hx6 := (show (owns (c : Thread nD τ) (edst 6) fullShare (V 6 (prv c)) : sProp 𝕄) ⊢ _ from (slot_open c rrM rc1 (fun _ => rfl) squeezes_S1x128x1024_S128x1024 shapeCasts_S128x1024_S1x128x1024 fullShare (V 6 (prv c)))) $$ Hx6
  icases Hx6 with ⟨%fx1, %hfx1, Hx6⟩
  sl_exec
  iapply (step_recv V K c 7 9 (by decide) rfl rfl) $$ [HO Hr7]
  · isplitr; · iexact HR
    isplitr; · iexact Hlev
    isplitl [HO]; · iexact HO
    iexact Hr7
  iintro ⟨HO, Hz7, Hx7⟩
  ihave Hx7 := (show (owns (c : Thread nD τ) (edst 7) fullShare (V 7 (prv c)) : sProp 𝕄) ⊢ _ from (slot_open c rrM rc2 (fun _ => rfl) squeezes_S1x128x1024_S128x1024 shapeCasts_S128x1024_S1x128x1024 fullShare (V 7 (prv c)))) $$ Hx7
  icases Hx7 with ⟨%fx2, %hfx2, Hx7⟩
  sl_exec
  iapply (step_recv V K c 8 9 (by decide) rfl rfl) $$ [HO Hr8]
  · isplitr; · iexact HR
    isplitr; · iexact Hlev
    isplitl [HO]; · iexact HO
    iexact Hr8
  iintro ⟨HO, Hz8, Hx8⟩
  ihave Hx8 := (show (owns (c : Thread nD τ) (edst 8) fullShare (V 8 (prv c)) : sProp 𝕄) ⊢ _ from (slot_open c rrM rc3 (fun _ => rfl) squeezes_S1x128x1024_S128x1024 shapeCasts_S128x1024_S1x128x1024 fullShare (V 8 (prv c)))) $$ Hx8
  icases Hx8 with ⟨%fx3, %hfx3, Hx8⟩
  sl_exec
  iapply (step_sent V K c 0 (by rfl) rfl) $$ [HO Hs0]
  · isplitr; · iexact HR
    isplitl [HO]; · iexact HO
    iexact Hs0
  iintro ⟨HO, Hy0, Hb0⟩
  sl_exec
  iapply (step_sent V K c 1 (by rfl) rfl) $$ [HO Hs1]
  · isplitr; · iexact HR
    isplitl [HO]; · iexact HO
    iexact Hs1
  iintro ⟨HO, Hy1, Hb1⟩
  sl_exec
  iapply (step_sent V K c 2 (by rfl) rfl) $$ [HO Hs2]
  · isplitr; · iexact HR
    isplitl [HO]; · iexact HO
    iexact Hs2
  iintro ⟨HO, Hy2, Hb2⟩
  sl_exec
  iapply (step_sent V K c 3 (by rfl) rfl) $$ [HO Hs3]
  · isplitr; · iexact HR
    isplitl [HO]; · iexact HO
    iexact Hs3
  iintro ⟨HO, Hy3, Hb3⟩
  sl_exec
  iapply (step_sent V K c 4 (by rfl) rfl) $$ [HO Hs4]
  · isplitr; · iexact HR
    isplitl [HO]; · iexact HO
    iexact Hs4
  iintro ⟨HO, Hy4, Hb4⟩
  sl_exec
  iapply (step_sent V K c 5 (by rfl) rfl) $$ [HO Hs5]
  · isplitr; · iexact HR
    isplitl [HO]; · iexact HO
    iexact Hs5
  iintro ⟨HO, Hy5, Hb5⟩
  have hO (k : Fin 4) : View.readAt (Elt F) outM.view (rowR k).toLoadRect fo = rowsOf own k := by rw [← ho]; rfl
  ihave HOUT := (rows_intro c fo _ (fun k => k0_pay88 (rowsOf own k) (shapeCast S1x128x1024 (chunks V (prv c) k) shapeCasts_S128x1024_S1x128x1024)) ?_) $$ HOUT
  · delta fifth_spec.sl.r_1 fifth_spec.sl.v1264 fifth_spec.sl.v1283 fifth_spec.sl.v1302
    simp only [← hO]
    rfl
  ihave Hx5 := (owns_slot c rrM rc0 (fun _ => rfl) squeezes_S1x128x1024_S128x1024 shapeCasts_S128x1024_S1x128x1024 fullShare (V 5 (prv c))).2 $$ [Hx5]
  · iexists fx0; isplitr; · ipureintro; exact hfx0
    iexact Hx5
  ihave Hx6 := (owns_slot c rrM rc1 (fun _ => rfl) squeezes_S1x128x1024_S128x1024 shapeCasts_S128x1024_S1x128x1024 fullShare (V 6 (prv c))).2 $$ [Hx6]
  · iexists fx1; isplitr; · ipureintro; exact hfx1
    iexact Hx6
  ihave Hx7 := (owns_slot c rrM rc2 (fun _ => rfl) squeezes_S1x128x1024_S128x1024 shapeCasts_S128x1024_S1x128x1024 fullShare (V 7 (prv c))).2 $$ [Hx7]
  · iexists fx2; isplitr; · ipureintro; exact hfx2
    iexact Hx7
  ihave Hx8 := (owns_slot c rrM rc3 (fun _ => rfl) squeezes_S1x128x1024_S128x1024 shapeCasts_S128x1024_S1x128x1024 fullShare (V 8 (prv c))).2 $$ [Hx8]
  · iexists fx3; isplitr; · ipureintro; exact hfx3
    iexact Hx8
  ihave Hx4 := (owns_slot c rrM rs1 (fun _ => rfl) squeezes_S1x512x1024_S512x1024 shapeCasts_S512x1024_S1x512x1024 fullShare (V 4 (prv c))).2 $$ [Hx4]
  · iexists fs; isplitr; · ipureintro; exact hfs
    iexact Hx4
  iapply Hκ
  isplitl [HO]; · iexact HO
  isplitl [Hz5]; · iexact Hz5
  isplitl [Hz6]; · iexact Hz6
  isplitl [Hz7]; · iexact Hz7
  isplitl [Hz8]; · iexact Hz8
  isplitl [Hy0]; · iexact Hy0
  isplitl [Hy1]; · iexact Hy1
  isplitl [Hy2]; · iexact Hy2
  isplitl [Hy3]; · iexact Hy3
  isplitl [Hy4]; · iexact Hy4
  isplitl [Hy5]; · iexact Hy5
  isplitl [Hs6]; · iexact Hs6
  isplitl [Hs7]; · iexact Hs7
  isplitl [Hs8]; · iexact Hs8
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hx4]; · iexact Hx4
  isplitl [Hx5]; · iexact Hx5
  isplitl [Hx6]; · iexact Hx6
  isplitl [Hx7]; · iexact Hx7
  isplitl [Hx8]; · iexact Hx8
  isplitl [H11]
  · iapply (whole_close c cc0_scratch5 _ _ _ hf11) $$ H11
  isplitl [H13]
  · iapply (whole_close c cc0_scratch7 _ _ _ hf13) $$ H13
  iexact HOUT

end Cert.Ring
-- ==== Proof.Whole.lean ====
/-
# The whole body on one device

What each edge carries, from the devices' blocks; and the body run from its launch state: the five stretches one after the
other, then the last three waits.
-/
module

public import proofs.«01_k».proof.Proof.Pieces
public import proofs.«01_k».proof.Proof.Stretch1
public import proofs.«01_k».proof.Proof.Stretch2
public import proofs.«01_k».proof.Proof.Stretch3
public import proofs.«01_k».proof.Proof.Stretch4
public import proofs.«01_k».proof.Proof.Stretch5
@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A device's blocks of the five arguments: the activations, the two projections, the keys and the values. -/
structure Blocks (F : FTy → Type) [FloatOps F] where
  x : cc0_stg0_0.ty.Contents (Elt F)
  wq : cc0_stg1_0.ty.Contents (Elt F)
  wo : cc0_stg2_0.ty.Contents (Elt F)
  k : main_arg2.ty.Contents (Elt F)
  v : main_arg3.ty.Contents (Elt F)

variable (B : Dev nD → Blocks F)

/-- The activations in the short format, -/
def act (c : Dev nD) : Vec F S512x1024 .bf16 :=
  k0_pay1 (xin.view.readAt (Elt F) (Rect.unit ![0, 0] S512x1024.size inb_S512x1024_S512x1024_0_0).toLoadRect (B c).x)
/-- the scaled query projection, -/
def wqOf (c : Dev nD) : Vec F S1024x1024 .bf16 := k0_pay2 ((Memref.whole cc0_stg1_0).view.read (Elt F) (B c).wq)
/-- the output projection, -/
def woOf (c : Dev nD) : Vec F S1024x1024 .bf16 := k0_pay3 ((Memref.whole cc0_stg2_0).view.read (Elt F) (B c).wo)
/-- the device's heads of the keys, -/
def keys (c : Dev nD) (h : Fin 8) : Vec F S1x2048x128 .bf16 := kvOf (fetched c (Memref.whole main_arg2) (B c).k h)
/-- and of the values. -/
def vals (c : Dev nD) (h : Fin 8) : Vec F S1x2048x128 .bf16 := kvOf (fetched c (Memref.whole main_arg3) (B c).v h)
/-- The attention of a block of activations over the device's heads. -/
def att (c : Dev nD) (x : Vec F S512x1024 .bf16) : Vec F S512x1024 .bf16 := attnOf x (wqOf B c) (keys B c) (vals B c)

/-- What the first edge into the sums carries: the share of the block of the device before, -/
def sum1 (c : Dev nD) : Vec F S512x1024 .bf16 := partOf (att B c (act B (prv c))) (woOf B c)
/-- the second: the share of the block of the device two before, added to what came in, -/
def sum2 (c : Dev nD) : Vec F S512x1024 .bf16 := sumOf (partOf (att B c (act B (prv (prv c)))) (woOf B c)) (sum1 B (prv c))
/-- the last four: the share of the block of the device three before, likewise, in chunks of rows. -/
def sum3 (c : Dev nD) (k : Fin 4) : Vec F S128x1024 .bf16 := lastOf (att B c (act B (prv (prv (prv c))))) (woOf B c) (sum2 B (prv c)) k

/-- What each edge carries. -/
def carried : Sent F := fun e c => match e with
  | 0 => act B c | 1 => act B (prv c) | 2 => act B (prv (prv c))
  | 3 => sum1 B c | 4 => sum2 B c
  | 5 => sum3 B c 0 | 6 => sum3 B c 1 | 7 => sum3 B c 2 | 8 => sum3 B c 3

/-- The device's block of the result: its own share and the last sum received. -/
def result (c : Dev nD) : Vec F S512x1024 .f32 := resultOf (k0_pay37 (att B c (act B c)) (woOf B c)) (sum3 B (prv c))

theorem chunks_carried (c : Dev nD) : chunks (carried B) c = sum3 B c := by
  funext k; fin_cases k <;> rfl

omit [FloatOps F] in
/-- A family over the nine edges, one by one. -/
theorem nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) := by
  rw [bigSep_univ_eq_bigSepL [0, 1, 2, 3, 4, 5, 6, 7, 8] (by decide) (by decide)]; rfl

/-- The body on the launch's buffers. -/
abbrev runAll : DProg F PUnit :=
  cc0_body_skel (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19

/-- The ghost state device `c` runs the body with. -/
def linear (c : Dev nD) : sProp 𝕄 :=
  iprop(dutyTok ER (barCell (prv c)) 0 true ∗ dutyTok ER (barCell (nxt c)) 0 false ∗ atPos ER (barCell c) 0 ∅ 0
    ∗ (bigSep Finset.univ fun e : Fin 9 => sendTok e c) ∗ (bigSep Finset.univ fun e : Fin 9 => atPos ER (sendCell e c) 0 ∅ 0)
    ∗ (bigSep Finset.univ fun e : Fin 9 => atPos ER (recvCell e c) 0 ∅ 0))
/-- The credits it waits with. -/
def credits (c : Dev nD) : sProp 𝕄 :=
  iprop(cred (tallyAt (barCell c) () 2) ∗ (bigSep Finset.univ fun e : Fin 9 => cred (tallyAt (recvCell e c) () (amt e))))
/-- The twelve scratch buffers, at any contents. -/
def scratch (c : Dev nD) : sProp 𝕄 :=
  iprop((∃ f, hold c fullShare cc0_scratch0 f) ∗ (∃ f, hold c fullShare cc0_scratch1 f) ∗ (∃ f, hold c fullShare cc0_scratch2 f) ∗ (∃ f, hold c fullShare cc0_scratch3 f) ∗ (∃ f, hold c fullShare cc0_scratch4 f) ∗ (∃ f, hold c fullShare cc0_scratch5 f) ∗ (∃ f, hold c fullShare cc0_scratch6 f) ∗ (∃ f, hold c fullShare cc0_scratch7 f) ∗ (∃ f, hold c fullShare cc0_scratch8 f) ∗ (∃ f, hold c fullShare cc0_scratch9 f) ∗ (∃ f, hold c fullShare cc0_scratch10 f) ∗ (∃ f, hold c fullShare cc0_scratch11 f))
/-- The semaphores outside the rounds, at rest. -/
def rest (c : Dev nD) : sProp 𝕄 :=
  iprop(semVal ((c : Thread nD τ), .dma ⟨24, by decide⟩) 0 ∗ semVal ((c : Thread nD τ), .dma ⟨25, by decide⟩) 0
      ∗ semVal ((c : Thread nD τ), .dma ⟨26, by decide⟩) 0 ∗ semVal ((c : Thread nD τ), .dma ⟨27, by decide⟩) 0)
/-- The rounds' semaphores at rest again. -/
def closed (c : Dev nD) : sProp 𝕄 :=
  iprop(semVal (barCell c) 0 ∗ (bigSep Finset.univ fun e : Fin 9 => semVal (sendCell e c) 0) ∗ (bigSep Finset.univ fun e : Fin 9 => semVal (recvCell e c) 0))

/-- The body: from the launch's state to the block of the result and everything at rest. -/
theorem body_spec (K : Dev nD × CIx → ℕ) (c : Dev nD) (fo) {Q : PUnit → sProp 𝕄} :
    iprop(recs (carried B) K ∗ levAts L lv ∗ owing c (owe₀ c) ∗ linear c ∗ credits c
      ∗ hold c fullShare cc0_stg0_0 (B c).x ∗ hold c fullShare cc0_stg1_0 (B c).wq ∗ hold c fullShare cc0_stg2_0 (B c).wo ∗ hold c fullShare cc0_stg3_0 fo
      ∗ hold c fullShare main_arg2 (B c).k ∗ hold c fullShare main_arg3 (B c).v ∗ scratch c ∗ rest c)
      ⊢ iprop(((owing c 0 ∗ closed c
          ∗ hold c fullShare cc0_stg0_0 (B c).x ∗ hold c fullShare cc0_stg1_0 (B c).wq ∗ hold c fullShare cc0_stg2_0 (B c).wo
          ∗ owns (c : Thread nD τ) outM fullShare (result B c)
          ∗ hold c fullShare main_arg2 (B c).k ∗ hold c fullShare main_arg3 (B c).v ∗ scratch c ∗ rest c) -∗ Q ⟨⟩)
        -∗ wp frame (wpE (defs₀ (F := F)) 𝒱₀ (c : Thread nD τ) none) Set.univ (runAll (F := F)) Q) := by
  unfold linear credits scratch rest closed
  iintro ⟨#HR, #HL, HO, ⟨Hd1, Hd2, Ha, HT, HS, HW⟩, ⟨Hc, HC⟩, H0, H1, H2, H3, HK, HV, HSC, HZ⟩
  icases HSC with ⟨⟨%f0, G0⟩, ⟨%f1, G1⟩, ⟨%f2, G2⟩, ⟨%f3, G3⟩, ⟨%f4, G4⟩, ⟨%f5, G5⟩, ⟨%f6, G6⟩, ⟨%f7, G7⟩, ⟨%f8, G8⟩, ⟨%f9, G9⟩, ⟨%f10, G10⟩, ⟨%f11, G11⟩⟩
  icases HZ with ⟨Z24, Z25, Z26, Z27⟩
  ihave HT := (Entails.of_eq (nine _)) $$ HT
  icases HT with ⟨T0, T1, T2, T3, T4, T5, T6, T7, T8⟩
  ihave HS := (Entails.of_eq (nine _)) $$ HS
  icases HS with ⟨A0, A1, A2, A3, A4, A5, A6, A7, A8⟩
  ihave HW := (Entails.of_eq (nine _)) $$ HW
  icases HW with ⟨P0, P1, P2, P3, P4, P5, P6, P7, P8⟩
  ihave HC := (Entails.of_eq (nine _)) $$ HC
  icases HC with ⟨C0, C1, C2, C3, C4, C5, C6, C7, C8⟩
  ihave HB := (landings_intro c f1 f3) $$ [G1 G3]
  · isplitl [G1]; · iexact G1
    iexact G3
  ihave HK := (tokens c main_arg2 24 25 (by decide) (by decide) (by decide) (B c).k).1 $$ HK
  icases HK with ⟨K1, K2, KR⟩
  ihave HV := (tokens c main_arg3 26 27 (by decide) (by decide) (by decide) (B c).v).1 $$ HV
  icases HV with ⟨V1, V2, VR⟩
  ihave G8 := (cut_pair c kbM f8) $$ G8
  icases G8 with ⟨G8, G8'⟩
  ihave G9 := (cut_pair c vbM f9) $$ G9
  icases G9 with ⟨G9, G9'⟩
  ihave G2 := (cut_cuts c paM f2) $$ G2
  icases G2 with ⟨S0, S1, R0, R1, R2, R3⟩
  ihave P0 := (show iprop(cred (tallyAt (recvCell 0 c) () (amt 0)) ∗ atPos ER (recvCell 0 c) 0 ∅ 0) ⊢ (recvWait 0 c : sProp 𝕄) from .rfl) $$ [C0 P0]
  · isplitl [C0]; · iexact C0
    iexact P0
  ihave P1 := (show iprop(cred (tallyAt (recvCell 1 c) () (amt 1)) ∗ atPos ER (recvCell 1 c) 0 ∅ 0) ⊢ (recvWait 1 c : sProp 𝕄) from .rfl) $$ [C1 P1]
  · isplitl [C1]; · iexact C1
    iexact P1
  ihave P2 := (show iprop(cred (tallyAt (recvCell 2 c) () (amt 2)) ∗ atPos ER (recvCell 2 c) 0 ∅ 0) ⊢ (recvWait 2 c : sProp 𝕄) from .rfl) $$ [C2 P2]
  · isplitl [C2]; · iexact C2
    iexact P2
  ihave P3 := (show iprop(cred (tallyAt (recvCell 3 c) () (amt 3)) ∗ atPos ER (recvCell 3 c) 0 ∅ 0) ⊢ (recvWait 3 c : sProp 𝕄) from .rfl) $$ [C3 P3]
  · isplitl [C3]; · iexact C3
    iexact P3
  ihave P4 := (show iprop(cred (tallyAt (recvCell 4 c) () (amt 4)) ∗ atPos ER (recvCell 4 c) 0 ∅ 0) ⊢ (recvWait 4 c : sProp 𝕄) from .rfl) $$ [C4 P4]
  · isplitl [C4]; · iexact C4
    iexact P4
  ihave P5 := (show iprop(cred (tallyAt (recvCell 5 c) () (amt 5)) ∗ atPos ER (recvCell 5 c) 0 ∅ 0) ⊢ (recvWait 5 c : sProp 𝕄) from .rfl) $$ [C5 P5]
  · isplitl [C5]; · iexact C5
    iexact P5
  ihave P6 := (show iprop(cred (tallyAt (recvCell 6 c) () (amt 6)) ∗ atPos ER (recvCell 6 c) 0 ∅ 0) ⊢ (recvWait 6 c : sProp 𝕄) from .rfl) $$ [C6 P6]
  · isplitl [C6]; · iexact C6
    iexact P6
  ihave P7 := (show iprop(cred (tallyAt (recvCell 7 c) () (amt 7)) ∗ atPos ER (recvCell 7 c) 0 ∅ 0) ⊢ (recvWait 7 c : sProp 𝕄) from .rfl) $$ [C7 P7]
  · isplitl [C7]; · iexact C7
    iexact P7
  ihave P8 := (show iprop(cred (tallyAt (recvCell 8 c) () (amt 8)) ∗ atPos ER (recvCell 8 c) 0 ∅ 0) ⊢ (recvWait 8 c : sProp 𝕄) from .rfl) $$ [C8 P8]
  · isplitl [C8]; · iexact C8
    iexact P8
  iintro Hκ
  unfold runAll
  rw [top1.eq]
  unfold top1
  rw [wp_bind, mid1.eq]
  iapply (first_spec (carried B) K c (B c).x (B c).wq (B c).wo (B c).k (B c).v fo f0 f4 f5 f6 f7 f8 f8 f9 f9 f10 f11 rfl _) $$ [HO Hd1 Hd2 HB Hc Ha T0 A0 H0 H1 H2 H3 K1 K2 V1 V2 G0 G4 G5 G6 G7 G8 G8' G9 G9' G10 G11 Z24 Z25 Z26 Z27]
  · isplitr; · iexact HR
    isplitr; · iexact HL
    isplitl [HO]; · iexact HO
    isplitl [Hd1]; · iexact Hd1
    isplitl [Hd2]; · iexact Hd2
    isplitl [HB]; · iexact HB
    isplitl [Hc]; · iexact Hc
    isplitl [Ha]; · iexact Ha
    isplitl [T0]; · iexact T0
    isplitl [A0]; · iexact A0
    isplitl [H0]; · iexact H0
    isplitl [H1]; · iexact H1
    isplitl [H2]; · iexact H2
    isplitl [H3]; · iexact H3
    isplitl [K1]; · iexact K1
    isplitl [K2]; · iexact K2
    isplitl [V1]; · iexact V1
    isplitl [V2]; · iexact V2
    isplitl [G0]; · iexact G0
    isplitl [G4]; · iexact G4
    isplitl [G5]; · iexact G5
    isplitl [G6]; · iexact G6
    isplitl [G7]; · iexact G7
    isplitl [G8]; · iexact G8
    isplitl [G8']; · iexact G8'
    isplitl [G9]; · iexact G9
    isplitl [G9']; · iexact G9'
    isplitl [G10]; · iexact G10
    isplitl [G11]; · iexact G11
    isplitl [Z24]; · iexact Z24
    isplitl [Z25]; · iexact Z25
    isplitl [Z26]; · iexact Z26
    iexact Z27
  iintro %v7 ⟨HO, ZB, ⟨L1, L2, L3, L4, L5, L6, L7, L8⟩, W0, X0, H0, H1, H2, ⟨%go, %hgo, H3⟩, K1, K2, V1, V2, G4, G5, ⟨%g6, G6⟩, ⟨%g7, G7⟩, G8, G8', G9, G9', G10, G11, Z24, Z25, Z26, Z27⟩
  rw [mid2.eq]
  iapply (second_spec (carried B) K c (wqOf B c) (woOf B c) (keys B c) (vals B c) rfl rfl v7 g6 g7 f2 _) $$ [HO P0 P1 T1 A1 L1 G4 G5 G6 G7 G10 G11 S0]
  · isplitr; · iexact HR
    isplitr; · iexact HL
    isplitl [HO]; · iexact HO
    isplitl [P0]; · iexact P0
    isplitl [P1]; · iexact P1
    isplitl [T1]; · iexact T1
    isplitl [A1]; · iexact A1
    isplitl [L1]; · iexact L1
    isplitl [G4]; · iexact G4
    isplitl [G5]; · iexact G5
    isplitl [G6]; · iexact G6
    isplitl [G7]; · iexact G7
    isplitl [G10]; · iexact G10
    isplitl [G11]; · iexact G11
    iexact S0
  iintro ⟨HO, W1, Q0, Q1, D0, D1, E3, G4, G5, ⟨%h6, G6⟩, ⟨%h7, G7⟩, G10, G11⟩
  rw [mid3.eq]
  iapply (third_spec (carried B) K c (wqOf B c) (woOf B c) (keys B c) (vals B c) rfl v7 h6 h7 f2 _) $$ [HO P2 T2 A2 L2 T3 A3 L3 D1 E3 G4 G5 G6 G7 G10 G11 S1]
  · isplitr; · iexact HR
    isplitr; · iexact HL
    isplitl [HO]; · iexact HO
    isplitl [P2]; · iexact P2
    isplitl [T2]; · iexact T2
    isplitl [A2]; · iexact A2
    isplitl [L2]; · iexact L2
    isplitl [T3]; · iexact T3
    isplitl [A3]; · iexact A3
    isplitl [L3]; · iexact L3
    isplitl [D1]; · iexact D1
    isplitl [E3]; · iexact E3
    isplitl [G4]; · iexact G4
    isplitl [G5]; · iexact G5
    isplitl [G6]; · iexact G6
    isplitl [G7]; · iexact G7
    isplitl [G10]; · iexact G10
    isplitl [G11]; · iexact G11
    iexact S1
  iintro ⟨HO, W2, W3, Q2, D1, D2, E4, G4, G5, ⟨%i6, G6⟩, ⟨%i7, G7⟩, G10, G11⟩
  simp only [mid4.eq]
  iapply (fourth_spec (carried B) K c (wqOf B c) (woOf B c) (keys B c) (vals B c) (carried B 2 (prv c)) (partOf (attnOf (carried B 2 c) (wqOf B c) (keys B c) (vals B c)) (woOf B c)) rfl v7 i6 i7 _) $$ [HO P3 P4 T4 A4 L4 E4 G4 G5 G6 G7 G10 G11]
  · isplitr; · iexact HR
    isplitr; · iexact HL
    isplitl [HO]; · iexact HO
    isplitl [P3]; · iexact P3
    isplitl [P4]; · iexact P4
    isplitl [T4]; · iexact T4
    isplitl [A4]; · iexact A4
    isplitl [L4]; · iexact L4
    isplitl [E4]; · iexact E4
    isplitl [G4]; · iexact G4
    isplitl [G5]; · iexact G5
    isplitl [G6]; · iexact G6
    isplitl [G7]; · iexact G7
    isplitl [G10]; · iexact G10
    iexact G11
  iintro ⟨HO, W4, Q3, Q4, D3, D4, G4, G5, ⟨%j6, G6⟩, G7, G10, G11⟩
  simp only [mid5.eq]
  iapply (fifth_spec (carried B) K c (woOf B c) (attnOf (carried B 2 (prv c)) (wqOf B c) (keys B c) (vals B c)) (k0_pay37 (att B c (act B c)) (woOf B c)) (fun k => by rw [chunks_carried]; rfl) v7 (fun _ => f2) go hgo _) $$ [HO P5 P6 P7 P8 T5 A5 L5 T6 A6 L6 T7 A7 L7 T8 A8 L8 W0 W1 W2 W3 W4 D4 G5 G7 R0 R1 R2 R3 H3]
  · isplitr; · iexact HR
    isplitr; · iexact HL
    isplitl [HO]; · iexact HO
    isplitl [P5]; · iexact P5
    isplitl [P6]; · iexact P6
    isplitl [P7]; · iexact P7
    isplitl [P8]; · iexact P8
    isplitl [T5]; · iexact T5
    isplitl [A5]; · iexact A5
    isplitl [L5]; · iexact L5
    isplitl [T6]; · iexact T6
    isplitl [A6]; · iexact A6
    isplitl [L6]; · iexact L6
    isplitl [T7]; · iexact T7
    isplitl [A7]; · iexact A7
    isplitl [L7]; · iexact L7
    isplitl [T8]; · iexact T8
    isplitl [A8]; · iexact A8
    isplitl [L8]; · iexact L8
    isplitl [W0]; · iexact W0
    isplitl [W1]; · iexact W1
    isplitl [W2]; · iexact W2
    isplitl [W3]; · iexact W3
    isplitl [W4]; · iexact W4
    isplitl [D4]; · iexact D4
    isplitl [G5]; · iexact G5
    isplitl [G7]; · iexact G7
    isplitl [R0]; · iexact R0
    isplitl [R1]; · iexact R1
    isplitl [R2]; · iexact R2
    isplitl [R3]; · iexact R3
    iexact H3
  iintro ⟨HO, Q5, Q6, Q7, Q8, Y0, Y1, Y2, Y3, Y4, Y5, W6, W7, W8, E0, E1, E2, E3, E4, E5, D4, D5, D6, D7, D8, G5, G7, HOUT⟩
  rw [wp_pure]
  imodintro
  unfold top1.tail
  rw [Prog.bind_lift]
  iapply (step_sent (carried B) K c 6 (by rfl) rfl) $$ [HO W6]
  · isplitr; · iexact HR
    isplitl [HO]; · iexact HO
    iexact W6
  iintro ⟨HO, Y6, E6⟩
  rw [Prog.bind_lift]
  iapply (step_sent (carried B) K c 7 (by rfl) rfl) $$ [HO W7]
  · isplitr; · iexact HR
    isplitl [HO]; · iexact HO
    iexact W7
  iintro ⟨HO, Y7, E7⟩
  rw [Prog.bind_lift]
  iapply (step_sent (carried B) K c 8 (by rfl) rfl) $$ [HO W8]
  · isplitr; · iexact HR
    isplitl [HO]; · iexact HO
    iexact W8
  iintro ⟨HO, Y8, E8⟩
  rw [wp_pure]
  imodintro
  iapply Hκ
  isplitl [HO]
  · rw [← owe_end c]; iexact HO
  isplitl [ZB Y0 Y1 Y2 Y3 Y4 Y5 Y6 Y7 Y8 Q0 Q1 Q2 Q3 Q4 Q5 Q6 Q7 Q8]
  · isplitl [ZB]; · iexact ZB
    isplitl [Y0 Y1 Y2 Y3 Y4 Y5 Y6 Y7 Y8]
    · rw [nine]
      isplitl [Y0]; · iexact Y0
      isplitl [Y1]; · iexact Y1
      isplitl [Y2]; · iexact Y2
      isplitl [Y3]; · iexact Y3
      isplitl [Y4]; · iexact Y4
      isplitl [Y5]; · iexact Y5
      isplitl [Y6]; · iexact Y6
      isplitl [Y7]; · iexact Y7
      iexact Y8
    rw [nine]
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    iexact Q8
  isplitl [H0]; · iexact H0
  isplitl [H1]; · iexact H1
  isplitl [H2]; · iexact H2
  isplitl [HOUT]
  · rw [chunks_carried]; iexact HOUT
  isplitl [K1 K2 KR]
  · iapply (tokens c main_arg2 24 25 (by decide) (by decide) (by decide) (B c).k).2
    isplitl [K1]; · iexact K1
    isplitl [K2]; · iexact K2
    iexact KR
  isplitl [V1 V2 VR]
  · iapply (tokens c main_arg3 26 27 (by decide) (by decide) (by decide) (B c).v).2
    isplitl [V1]; · iexact V1
    isplitl [V2]; · iexact V2
    iexact VR
  isplitr [Z24 Z25 Z26 Z27]
  · isplitl [X0 E0]
    · iapply (hold_of_owns c cc0_scratch0 (carried B 0 c))
      iapply (owns_halves (c : Thread nD τ) xsM fullShare (carried B 0 c)).2
      isplitl [E0]; · iexact E0
      iexact X0
    isplitl [D0 D1 D2 E1 E2]
    · iapply (gather_xf c (carried B 1 c) (carried B 2 c) (carried B 2 (prv c)))
      isplitl [D0 E1]
      · isplitl [E1]; · iexact E1
        iexact D0
      isplitl [D1 E2]
      · isplitl [E2]; · iexact E2
        iexact D1
      iexact D2
    isplitl [E3 E4 E5 E6 E7 E8]
    · iapply (gather_pa c (carried B 3 c) (carried B 4 c) (carried B 5 c) (carried B 6 c) (carried B 7 c) (carried B 8 c))
      isplitl [E3]; · iexact E3
      isplitl [E4]; · iexact E4
      isplitl [E5]; · iexact E5
      isplitl [E6]; · iexact E6
      isplitl [E7]; · iexact E7
      iexact E8
    isplitl [D3 D4 D5 D6 D7 D8]
    · iapply (gather_rr c (carried B 3 (prv c)) (carried B 4 (prv c)) (carried B 5 (prv c)) (carried B 6 (prv c)) (carried B 7 (prv c)) (carried B 8 (prv c)))
      isplitl [D3]; · iexact D3
      isplitl [D4]; · iexact D4
      isplitl [D5]; · iexact D5
      isplitl [D6]; · iexact D6
      isplitl [D7]; · iexact D7
      iexact D8
    isplitl [G4]; · iapply (hold_of_owns c cc0_scratch4 _) $$ G4
    isplitl [G5]; · iapply (hold_of_owns c cc0_scratch5 _) $$ G5
    isplitl [G6]; · iexists j6; iexact G6
    isplitl [G7]; · iapply (hold_of_owns c cc0_scratch7 _) $$ G7
    isplitl [G8 G8']
    · iapply (join_pair c kbM)
      isplitl [G8]; · iexact G8
      iexact G8'
    isplitl [G9 G9']
    · iapply (join_pair c vbM)
      isplitl [G9]; · iexact G9
      iexact G9'
    isplitl [G10]; · iapply (hold_of_owns c cc0_scratch10 _) $$ G10
    iapply (hold_of_owns c cc0_scratch11 _) $$ G11
  isplitl [Z24]; · iexact Z24
  isplitl [Z25]; · iexact Z25
  isplitl [Z26]; · iexact Z26
  iexact Z27

end Cert.Ring
-- ==== Proof.Deal.lean ====
/-
# Dealing the protocol's state to the devices

The cells and the duty tokens of all devices, minted together; each device gets its positions and the tokens of the duties it
pays; the credits come from what the devices owe at launch.
-/
module

public import proofs.«01_k».proof.Proof.Whole
public import Idealize.ShloMosaic.Lib.Pipeline.Launch
public import Idealize.ShloMosaic.Lib.Pipeline.Kit
@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Sent F)

/-- A family over a device's cells: the barrier, the departures, the arrivals. -/
theorem over_cells (Φ : CIx → sProp 𝕄) : bigSep Finset.univ Φ
    = iprop(Φ none ∗ (bigSep Finset.univ fun e : Fin 9 => Φ (some (false, e))) ∗ bigSep Finset.univ fun e : Fin 9 => Φ (some (true, e))) := by
  have h1 : (Finset.univ : Finset CIx) = insert none (Finset.univ.map Function.Embedding.some) := rfl
  have h2 : (none : CIx) ∉ Finset.univ.map (Function.Embedding.some (α := Bool × Fin 9)) := by decide
  rw [h1, bigSep_insert h2, bigSep_map, bigSep_univ_prod, bigSep_univ_eq_bigSepL [false, true] (by decide) (by decide)]
  rfl

theorem kcell_injective : Function.Injective (kcell : Dev nD × CIx → GSem nD τ sig) := by
  rintro ⟨c, k⟩ ⟨c', k'⟩ h
  have h1 : c = c' := congrArg (fun g : GSem nD τ sig => g.1.1) h
  subst h1
  have h2 : k = k' := csem_injective (congrArg Prod.snd h)
  rw [h2]
def ringCells : Finset (GSem nD τ sig) := Finset.univ.map ⟨kcell, kcell_injective⟩

/-- The duties a device's own cells take: each cell's `false`, and the barrier's `true`. -/
abbrev tokOf (cj : Dev nD × Option CIx) : GSem nD τ sig × ℕ × Bool := match cj.2 with
  | none => (barCell cj.1, 0, true) | some k => (kcell (cj.1, k), 0, false)
theorem tokOf_injective : Function.Injective (tokOf : Dev nD × Option CIx → GSem nD τ sig × ℕ × Bool) := by
  rintro ⟨c, j⟩ ⟨c', j'⟩ h
  cases j with
  | none =>
    cases j' with
    | none =>
      have h1 : c = c' := congrArg (fun x : GSem nD τ sig × ℕ × Bool => x.1.1.1) h
      rw [h1]
    | some k => exact absurd (congrArg (fun x : GSem nD τ sig × ℕ × Bool => x.2.2) h) (fun h' => by cases h')
  | some k =>
    cases j' with
    | none => exact absurd (congrArg (fun x : GSem nD τ sig × ℕ × Bool => x.2.2) h) (fun h' => by cases h')
    | some k' =>
      have h2 := kcell_injective (congrArg (fun x : GSem nD τ sig × ℕ × Bool => x.1) h : kcell (c, k) = kcell (c', k'))
      rw [Prod.mk.injEq] at h2
      rw [show c = c' from h2.1, h2.2]
def ringToks : Finset (GSem nD τ sig × ℕ × Bool) := Finset.univ.map ⟨tokOf, tokOf_injective⟩

/-- The tokens of the duties a device's own cells take. -/
def toks (c : Dev nD) : sProp 𝕄 :=
  iprop(dutyTok ER (barCell c) 0 true ∗ dutyTok ER (barCell c) 0 false ∗ (bigSep Finset.univ fun e : Fin 9 => dutyTok ER (sendCell e c) 0 false)
    ∗ bigSep Finset.univ fun e : Fin 9 => dutyTok ER (recvCell e c) 0 false)

/-- A device's positions at its cells. -/
def positions (c : Dev nD) : sProp 𝕄 := bigSep Finset.univ fun k : CIx => atPos ER (kcell (c, k)) 0 ∅ 0

/-- What a device is dealt. -/
def G (c : Dev nD) : sProp 𝕄 :=
  iprop((bigSep Finset.univ fun k : CIx => roundState ER (rd V) (kcell (c, k)) 0) ∗ positions c
    ∗ (bigSep Finset.univ fun k : CIx => reached ER (kcell (c, k)) 0) ∗ toks c)

/-- What it runs with. -/
def G' (c : Dev nD) : sProp 𝕄 := iprop(∃ K, recs V K ∗ linear c)

theorem over_duties (Φ : Option CIx → sProp 𝕄) : bigSep Finset.univ Φ
    = iprop(Φ none ∗ bigSep Finset.univ fun k : CIx => Φ (some k)) := by
  have h1 : (Finset.univ : Finset (Option CIx)) = insert none (Finset.univ.map Function.Embedding.some) := rfl
  have h2 : (none : Option CIx) ∉ Finset.univ.map (Function.Embedding.some (α := CIx)) := by
    intro h; obtain ⟨x, -, hx⟩ := Finset.mem_map.mp h; cases hx
  rw [h1, bigSep_insert h2, bigSep_map]
  rfl

theorem fund_ring : BI.own (ER (initOf ringCells ringToks)) ⊢ (|==> bigSep Finset.univ (G V) : sProp 𝕄) := by
  have hX (Φ : GSem nD τ sig → sProp 𝕄) : bigSep ringCells Φ = bigSep Finset.univ fun c : Dev nD => bigSep Finset.univ fun k : CIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [over_duties, over_cells]; rfl
  iintro HX
  imod (Rounds.fund ER (rd V) ringCells ringToks) $$ HX with ⟨Hst, Hr, Hat, Htok⟩
  imodintro
  ihave Hst' := (Entails.of_eq (hX fun g => roundState ER (rd V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G positions; simp only [bigSep_sep']
  isplitl [Hst']; · iexact Hst'
  isplitl [Hat']; · iexact Hat'
  isplitl [Hr']; · iexact Hr'
  iexact Htok'

/-! ## The semaphores -/

/-- The kernel's own semaphores. -/
abbrev osem : Fin 24 → SemLoc sig := fun i => .dma ⟨i.val + 4, by have := i.isLt; show i.val + 4 < 28; omega⟩

/-- Two of them are never used. -/
def idle (c : Dev nD) : sProp 𝕄 := iprop(semVal ((c : Thread nD τ), .dma ⟨12, by decide⟩) 0 ∗ semVal ((c : Thread nD τ), .dma ⟨15, by decide⟩) 0)

theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0 ∗ semVal (recvCell 0 c) 0 ∗ semVal (recvCell 1 c) 0 ∗ semVal (recvCell 2 c) 0 ∗ semVal (sendCell 3 c) 0 ∗ semVal (sendCell 4 c) 0 ∗ semVal ((c : Thread nD τ), .dma ⟨12, by decide⟩) 0 ∗ semVal (recvCell 3 c) 0 ∗ semVal (recvCell 4 c) 0 ∗ semVal ((c : Thread nD τ), .dma ⟨15, by decide⟩) 0 ∗ semVal (sendCell 5 c) 0 ∗ semVal (sendCell 6 c) 0 ∗ semVal (sendCell 7 c) 0 ∗ semVal (sendCell 8 c) 0 ∗ semVal (recvCell 5 c) 0 ∗ semVal (recvCell 6 c) 0 ∗ semVal (recvCell 7 c) 0 ∗ semVal (recvCell 8 c) 0 ∗ semVal ((c : Thread nD τ), .dma ⟨24, by decide⟩) 0 ∗ semVal ((c : Thread nD τ), .dma ⟨25, by decide⟩) 0 ∗ semVal ((c : Thread nD τ), .dma ⟨26, by decide⟩) 0 ∗ semVal ((c : Thread nD τ), .dma ⟨27, by decide⟩) 0) := by
  rw [Pipeline.ownSems0_eq_of_list c osem [0, 1, 2, 3, 4, 5, 6, 7, 8, 9, 10, 11, 12, 13, 14, 15, 16, 17, 18, 19, 20, 21, 22, 23] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- At launch they are the cells', the unused ones and the fetches'; -/
theorem sems_split (c : Dev nD) :
    iprop(Pipeline.ownSems0 (Ix := Unit) (Name := ℕ) (U := UU) (Lvl := ℕ) (Val := Elt F) (τ := τ) osem c ∗ unscopedSems0 c)
      ⊢ (iprop(closed c ∗ idle c ∗ rest c) : sProp 𝕄) := by
  rw [ownSems0_eq, unscopedSems0_eq]
  unfold closed idle rest
  rw [nine, nine]
  iintro ⟨⟨S0, S1, S2, R0, R1, R2, S3, S4, Z12, R3, R4, Z15, S5, S6, S7, S8, R5, R6, R7, R8, Z24, Z25, Z26, Z27⟩, HB⟩
  isplitl [HB S0 S1 S2 R0 R1 R2 S3 S4 R3 R4 S5 S6 S7 S8 R5 R6 R7 R8]
  · isplitl [HB]; · iexact HB
    isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  isplitl [Z12 Z15]
  · isplitl [Z12]; · iexact Z12
    iexact Z15
  isplitl [Z24]; · iexact Z24
  isplitl [Z25]; · iexact Z25
  isplitl [Z26]; · iexact Z26
  iexact Z27
/-- and so at the end. -/
theorem sems_join (c : Dev nD) :
    (iprop(closed c ∗ idle c ∗ rest c) : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq]
  unfold closed idle rest
  rw [nine, nine]
  iintro ⟨⟨HB, ⟨S0, S1, S2, S3, S4, S5, S6, S7, S8⟩, ⟨R0, R1, R2, R3, R4, R5, R6, R7, R8⟩⟩, ⟨Z12, Z15⟩, Z24, Z25, Z26, Z27⟩
  isplitl [HB]; · iexact HB
  isplitl [S0]; · iexact S0
  isplitl [S1]; · iexact S1
  isplitl [S2]; · iexact S2
  isplitl [R0]; · iexact R0
  isplitl [R1]; · iexact R1
  isplitl [R2]; · iexact R2
  isplitl [S3]; · iexact S3
  isplitl [S4]; · iexact S4
  isplitl [Z12]; · iexact Z12
  isplitl [R3]; · iexact R3
  isplitl [R4]; · iexact R4
  isplitl [Z15]; · iexact Z15
  isplitl [S5]; · iexact S5
  isplitl [S6]; · iexact S6
  isplitl [S7]; · iexact S7
  isplitl [S8]; · iexact S8
  isplitl [R5]; · iexact R5
  isplitl [R6]; · iexact R6
  isplitl [R7]; · iexact R7
  isplitl [R8]; · iexact R8
  isplitl [Z24]; · iexact Z24
  isplitl [Z25]; · iexact Z25
  isplitl [Z26]; · iexact Z26
  iexact Z27

theorem closed_eq (c : Dev nD) : (closed c : sProp 𝕄) = bigSep Finset.univ fun k : CIx => semVal (kcell (c, k)) 0 := by
  rw [over_cells]; rfl

/-! ## The global step -/

theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k : CIx => iprop(∃ κ : ℕ, cellInv ER (rd V) κ (kcell (c, k))))
          ∗ (bigSep Finset.univ fun k : CIx => reached ER (kcell (c, k)) 0) ∗ (positions c ∗ idle c ∗ rest c) ∗ toks c) := by
  unfold G
  iintro ⟨Hos, Hus, Hst, Hat, Hr, Htok⟩
  ihave Hv := (sems_split (F := F) c) $$ [Hos Hus]
  · isplitl [Hos] <;> iassumption
  icases Hv with ⟨Hv, Hi, Hz⟩
  ihave Hv := (Entails.of_eq (closed_eq (F := F) c)) $$ Hv
  imod (show iprop((bigSep Finset.univ fun k : CIx => semVal (kcell (c, k)) 0) ∗ bigSep Finset.univ fun k : CIx => roundState ER (rd V) (kcell (c, k)) 0)
      ⊢ (|={Set.univ}=> bigSep Finset.univ fun k : CIx => iprop(∃ κ : ℕ, cellInv ER (rd V) κ (kcell (c, k))) : sProp 𝕄) from by
        rw [← bigSep_sep']
        exact (bigSep_mono fun k _ => (Rounds.body_intro ER (rd V) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat Hi Hz]
  · isplitl [Hat]; · iexact Hat
    isplitl [Hi] <;> iassumption
  iexact Htok

/-- The tokens of the duties a device pays. -/
def payToks (c : Dev nD) : sProp 𝕄 :=
  iprop(dutyTok ER (barCell (prv c)) 0 true ∗ dutyTok ER (barCell (nxt c)) 0 false ∗ (bigSep Finset.univ fun e : Fin 9 => dutyTok ER (sendCell e c) 0 false)
    ∗ bigSep Finset.univ fun e : Fin 9 => dutyTok ER (recvCell e (nxt c)) 0 false)

/-- Dealt around the ring: a device pays into its own departures and its neighbours' other cells. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv step.symm (fun c : Dev nD => (dutyTok ER (barCell c) 0 true : sProp 𝕄)),
    bigSep_univ_equiv step (fun c : Dev nD => (dutyTok ER (barCell c) 0 false : sProp 𝕄)),
    bigSep_univ_equiv step (fun c : Dev nD => (bigSep Finset.univ fun e : Fin 9 => dutyTok ER (recvCell e c) 0 false : sProp 𝕄))]
  exact .rfl

theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro (c : Dev nD) : iprop(positions c ∗ payToks c) ⊢ (linear c : sProp 𝕄) := by
  unfold positions payToks linear sendTok
  rw [over_cells, bigSep_sep']
  iintro ⟨⟨H1, H2, H3⟩, T1, T2, T3, T4⟩
  isplitl [T1]; · iexact T1
  isplitl [T2]; · iexact T2
  isplitl [H1]; · iexact H1
  isplitl [T3 T4]
  · isplitl [T3] <;> iassumption
  isplitl [H2]; · iexact H2
  iexact H3

/-- With the semaphores that stay outside the rounds. -/
def H' (c : Dev nD) : sProp 𝕄 := iprop(G' V c ∗ idle c ∗ rest c)

theorem regroup :
    (bigSep Finset.univ fun c : Dev nD => iprop((bigSep Finset.univ fun k : CIx => iprop(∃ κ : ℕ, cellInv ER (rd V) κ (kcell (c, k))))
          ∗ (bigSep Finset.univ fun k : CIx => reached ER (kcell (c, k)) 0) ∗ (positions c ∗ idle c ∗ rest c) ∗ toks c) : sProp 𝕄)
      ⊢ bigSep Finset.univ (H' V) := by
  rw [bigSep_sep', bigSep_sep', bigSep_sep', ← bigSep_univ_prod (fun ck : Dev nD × CIx => iprop(∃ κ : ℕ, cellInv ER (rd V) κ (kcell ck))),
    ← bigSep_univ_prod (fun ck : Dev nD × CIx => (reached ER (kcell ck) 0 : sProp 𝕄))]
  iintro ⟨HI, #HR, Hat, Htok⟩
  ihave HK := (BI.bigSep_exists_pi Finset.univ (fun (ck : Dev nD × CIx) (κ : ℕ) => (cellInv ER (rd V) κ (kcell ck) : sProp 𝕄))) $$ HI
  icases HK with ⟨%K, #HI⟩
  ihave Htk := (toks_around (F := F)) $$ Htok
  iapply (each_with (R := recs V K) (Φ := fun c => iprop((positions c ∗ idle c ∗ rest c) ∗ payToks c)) fun c _ => by
    unfold H' G'
    iintro ⟨#HR, ⟨⟨Hp, Hi, Hz⟩, Ht⟩⟩
    isplitl [Hp Ht]
    · iexists K
      isplitr; · iexact HR
      iapply (linear_intro (F := F) c)
      isplitl [Hp] <;> iassumption
    isplitl [Hi] <;> iassumption)
  isplitr
  · unfold recs; isplitl; · iexact HI
    iexact HR
  · rw [bigSep_sep' Finset.univ (fun c : Dev nD => iprop(positions c ∗ idle c ∗ rest c)) (fun c : Dev nD => payToks c)]
    isplitl [Hat]; · iexact Hat
    iexact Htk

/-- The global step: the cells of every device opened at once. -/
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (H' V) :=
  ((bigSep_mono fun c _ => core_alloc V c).trans (bigSep_fupd _ _)).trans (BI.fupd_mono (regroup V))

/-! ## The launch credit -/

theorem cell_eq_iff (s : SemLoc sig) {a b : Dev nD} : Iff ((((a : Thread nD τ), s) : GSem nD τ sig) = ((b : Thread nD τ), s)) (a = b) :=
  ⟨fun h => congrArg (fun g : GSem nD τ sig => g.1.1) h, fun h => h ▸ rfl⟩

theorem nxt_eq_iff {a b : Dev nD} : Iff (a = nxt b) (b = prv a) := ⟨fun h => by rw [h, prv_nxt], fun h => by rw [h, nxt_prv]⟩
theorem prv_eq_iff {a b : Dev nD} : Iff (a = prv b) (b = nxt a) := ⟨fun h => by rw [h, nxt_prv], fun h => by rw [h, prv_nxt]⟩

/-- What device `d` owes the barrier of device `c`: a unit from each neighbour. -/
theorem owed_bar (d c : Dev nD) : owe₀ d (barCell c) () = (if d = prv c then 1 else 0) + (if d = nxt c then 1 else 0) := by
  have h0 : owe d 0 (barCell c) () = 0 := by
    unfold owe due
    rw [Finset.sum_apply, Finsupp.finset_sum_apply]
    refine Finset.sum_eq_zero fun e _ => ?_
    rw [tallyAt_apply, if_neg]
    rintro ⟨h, -⟩
    exact absurd (congrArg Prod.snd h) (by show SemLoc.reg barS ≠ _; intro h'; cases h')
  unfold owe₀ owe₁
  rw [Pi.add_apply, Finsupp.add_apply, Pi.add_apply, Finsupp.add_apply, h0, tallyAt_apply, tallyAt_apply, Nat.zero_add]
  congr 1
  · exact if_congr ⟨fun h => nxt_eq_iff.mp ((cell_eq_iff _).mp h.1), fun h => ⟨(cell_eq_iff _).mpr (nxt_eq_iff.mpr h), rfl⟩⟩ rfl rfl
  · exact if_congr ⟨fun h => prv_eq_iff.mp ((cell_eq_iff _).mp h.1), fun h => ⟨(cell_eq_iff _).mpr (prv_eq_iff.mpr h), rfl⟩⟩ rfl rfl

/-- and its arrivals: each edge's credit from the device before. -/
theorem owed_recv (d c : Dev nD) (e : Fin 9) : owe₀ d (recvCell e c) () = if d = prv c then amt e else 0 := by
  unfold owe₀ owe₁ owe due
  rw [Pi.add_apply, Finsupp.add_apply, Pi.add_apply, Finsupp.add_apply,
    tallyAt_apply, if_neg (fun h => by cases (congrArg Prod.snd h.1 : SemLoc.dma _ = SemLoc.reg _)),
    tallyAt_apply, if_neg (fun h => by cases (congrArg Prod.snd h.1 : SemLoc.dma _ = SemLoc.reg _)), Nat.add_zero,
    Finset.sum_apply, Finsupp.finset_sum_apply]
  rw [Finset.sum_eq_single e]
  · rw [tallyAt_apply]
    exact if_congr ⟨fun h => nxt_eq_iff.mp ((cell_eq_iff _).mp h.1), fun h => ⟨(cell_eq_iff _).mpr (nxt_eq_iff.mpr h), rfl⟩⟩ rfl rfl
  · intro e' _ hne
    rw [tallyAt_apply, if_neg]
    rintro ⟨h, -⟩
    have h2 : (SemLoc.dma (recvS e) : SemLoc sig) = .dma (recvS e') := congrArg Prod.snd h
    exact hne (recvS_injective (by injection h2 with h3; exact h3.symm))
  · intro h; exact absurd (by simp) h

theorem launch_bar (c : Dev nD) :
    tallyOn (barCell c) (launchCredit (Pipeline.owing owe₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (e : Fin 9) :
    tallyOn (recvCell e c) (launchCredit (Pipeline.owing owe₀) 0 (recvCell e c)) = (tallyAt (recvCell e c) () (amt e) : CellTallies nD τ sig Unit) := by
  unfold tallyAt; refine congrArg _ (Finsupp.ext fun u => ?_); cases u
  rw [Pipeline.launchCredit_owing, Finsupp.single_eq_same, Finset.sum_congr rfl fun d _ => owed_recv d c e, Finset.sum_ite_eq' Finset.univ (prv c) fun _ => amt e,
    if_pos (Finset.mem_univ _)]

/-- The arrivals' semaphores. -/
def arrivals : Finset (SemLoc sig) := Finset.univ.map ⟨fun e : Fin 9 => .dma (recvS e), fun e e' h => recvS_injective (by injection h)⟩

theorem creds (c : Dev nD) : (Pipeline.launchCred owe₀ c : sProp 𝕄) ⊢ credits c := by
  unfold Pipeline.launchCred credits
  rw [bigSep_univ_at _ (SemLoc.reg barS), launch_bar]
  refine sep_mono_right ?_
  have hs : arrivals ⊆ Finset.univ.erase (SemLoc.reg barS) := by decide
  refine (bigSep_subset hs).trans ?_
  unfold arrivals
  rw [bigSep_map]
  exact bigSep_mono fun e _ => by
    show cred (tallyOn (recvCell e c) (launchCredit (Pipeline.owing owe₀) 0 (recvCell e c))) ⊢ _
    rw [launch_recv]

end Cert.Ring
-- ==== Proof.Launch.lean ====
/-
# The launch

Four devices run the body of `Whole` at once. At the end each device's result holds its own share added to the last sum it
received, and every argument is as it was.
-/
module

public import proofs.«01_k».proof.Proof.Deal
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.CollectiveSegs
@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- A device's blocks, as the launch stages them. -/
def blocksOf (c : Dev nD) : Blocks F where
  x := (win0_0.blk t0_0).view.read (Elt F) (m ((c : Thread nD τ).loc main_arg0))
  wq := (win0_1.blk t0_0).view.read (Elt F) (m ((c : Thread nD τ).loc main_arg1))
  wo := (win0_2.blk t0_0).view.read (Elt F) (m ((c : Thread nD τ).loc main_arg4))
  k := m ((c : Thread nD τ).loc main_arg2)
  v := m ((c : Thread nD τ).loc main_arg3)

/-- The result's staging buffer at the end. -/
def outAt (c : Dev nD) : cc0_stg3_0.ty.Contents (Elt F) :=
  outM.view.write (Elt F) (blocksOf m c).x (result (blocksOf m) c) Finset.univ

theorem read_outAt (c : Dev nD) : outM.view.read (Elt F) (outAt m c) = result (blocksOf m) c := View.read_write_univ _ _

/-- Contents that read as the result are these. -/
theorem outAt_unique (c : Dev nD) (f : cc0_stg3_0.ty.Contents (Elt F)) (h : outM.view.read (Elt F) f = result (blocksOf m) c) : f = outAt m c := by
  have hr : outM.view.read (Elt F) f = outM.view.read (Elt F) (outAt m c) := h.trans (read_outAt m c).symm
  funext y
  have hy : y ∈ outM.view.set := by rw [outM_set, View.set_whole]; exact Finset.mem_univ _
  obtain ⟨i, -, hi⟩ := Finset.mem_map.mp hy
  rw [← hi]
  exact congrFun hr i

/-! ## The pipeline's data -/

/-- What a device enters the body with, besides its scratch: its ghost state, the credits, the keys and the values. -/
def start (c : Dev nD) : sProp 𝕄 :=
  iprop(H' (carried (blocksOf m)) c ∗ credits c ∗ levAts L lv ∗ hold c fullShare main_arg2 (blocksOf m c).k ∗ hold c fullShare main_arg3 (blocksOf m c).v)
/-- The keys and the values, untouched, with the semaphores at rest. -/
def finish (c : Dev nD) : sProp 𝕄 :=
  iprop((closed c ∗ idle c ∗ rest c) ∗ hold c fullShare main_arg2 (blocksOf m c).k ∗ hold c fullShare main_arg3 (blocksOf m c).v)
def Φ₀ (c : Dev nD) : sProp 𝕄 := iprop(start m c ∗ scratch c)
def Φ₁ (c : Dev nD) : sProp 𝕄 := iprop(finish m c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (blocksOf m c).x
    | ⟨1, _⟩ => (blocksOf m c).wq
    | ⟨2, _⟩ => (blocksOf m c).wo
    | ⟨3, _⟩ => outAt m c
  Φ t := match t with
    | ⟨0, _⟩ => Φ₀ m c
    | ⟨_ + 1, _⟩ => Φ₁ m c
  q _ := fullShare
  owed t := match t with
    | ⟨0, _⟩ => owe₀ c
    | ⟨_ + 1, _⟩ => 0

theorem over_windows (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole (c : Dev nD) (b : Ref sig .tc) (X : b.ty.Contents (Elt F)) :
    (owns (c : Thread nD τ) (Memref.whole b) fullShare X : sProp 𝕄) = iprop(∃ f : Buf (Elt F) ((c : Thread nD τ).loc b), ⌜f = X⌝ ∗ hold c fullShare b f) := by
  unfold owns; simp only [Memref.view_whole, View.read_whole]

/-- A whole buffer held at given contents. -/
def stg (c : Dev nD) (b : Ref sig .tc) (X : b.ty.Contents (Elt F)) : sProp 𝕄 :=
  iprop(∃ f : Buf (Elt F) ((c : Thread nD τ).loc b), ⌜f = X⌝ ∗ hold c fullShare b f)

theorem stg_intro (c : Dev nD) (b : Ref sig .tc) (X : b.ty.Contents (Elt F)) : hold c fullShare b X ⊢ (stg c b X : sProp 𝕄) := by
  unfold stg; iintro H; iexists X; isplitr; · (ipureintro; rfl)
  iexact H

/-- The result's matrix owned is its buffer at the end. -/
theorem out_stg (c : Dev nD) : (owns (c : Thread nD τ) outM fullShare (result (blocksOf m) c) : sProp 𝕄) ⊢ stg c cc0_stg3_0 (outAt m c) := by
  unfold owns stg
  iintro ⟨%f, %hf, H⟩
  iexists f
  isplitr; · ipureintro; exact outAt_unique m c f hf
  iapply (show (outM.view.loc (c : Thread nD τ) ↦[outM.view.set]{fullShare} f : sProp 𝕄) ⊢ hold c fullShare cc0_stg3_0 f from Entails.of_eq (by rw [outM_set]))
  iexact H

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))
set_option maxRecDepth 4000 in
def bodyPost (c : Dev nD) : sProp 𝕄 :=
  iprop(Φ₁ m c ∗ (dats m ρ 0 c).owesAt () t0_0.succ
    ∗ stg c cc0_stg0_0 (blocksOf m c).x ∗ stg c cc0_stg1_0 (blocksOf m c).wq ∗ stg c cc0_stg2_0 (blocksOf m c).wo ∗ stg c cc0_stg3_0 (outAt m c))

/-- The staged blocks are the devices'. -/
theorem staged0 (c : Dev nD) (d) : (dats m ρ 0 c).before (0 : Fin 4) t0_0 d = (blocksOf m c).x := by unfold Dat.before; rw [if_pos (fetch0_0 t0_0)]; rfl
theorem staged1 (c : Dev nD) (d) : (dats m ρ 0 c).before (1 : Fin 4) t0_0 d = (blocksOf m c).wq := by unfold Dat.before; rw [if_pos (fetch0_1 t0_0)]; rfl
theorem staged2 (c : Dev nD) (d) : (dats m ρ 0 c).before (2 : Fin 4) t0_0 d = (blocksOf m c).wo := by unfold Dat.before; rw [if_pos (fetch0_2 t0_0)]; rfl

/-- The body from the pipeline's state to the pipeline's state. -/
theorem sound_body (c : Dev nD) : bodyPre m ρ c ⊢ wp frame (wpE (defs₀ (F := F)) 𝒱₀ (c : Thread nD τ) none) Set.univ (runAll (F := F)) (fun _ => bodyPost m ρ c) := by
  unfold bodyPre Φ₀ start H' G' stg
  iintro ⟨⟨⟨⟨⟨%K, HR, HLn⟩, Hi, Hz⟩, Hcr, HL, HK, HV⟩, Hs⟩, Ho, ⟨%d0, %g0, %hg0, H0⟩, ⟨%d1, %g1, %hg1, H1⟩, ⟨%d2, %g2, %hg2, H2⟩, ⟨%d3, %g3, %hg3, H3⟩⟩
  rw [staged0] at hg0; rw [staged1] at hg1; rw [staged2] at hg2
  subst hg0 hg1 hg2
  unfold Dat.owesAt Pipeline.owesWithin
  icases Ho with ⟨%W, %hW, HO⟩
  rw [show (dats m ρ 0 c).owed t0_0.castSucc = owe₀ c from rfl]
  iapply (body_spec (blocksOf m) K c g3) $$ [HR HLn Hz Hcr HL HK HV Hs HO H0 H1 H2 H3]
  · isplitl [HR]; · iexact HR
    isplitl [HL]; · iexact HL
    isplitl [HO]; · unfold owing; iexists W; iexact HO
    isplitl [HLn]; · iexact HLn
    isplitl [Hcr]; · iexact Hcr
    isplitl [H0]; · iexact H0
    isplitl [H1]; · iexact H1
    isplitl [H2]; · iexact H2
    isplitl [H3]; · iexact H3
    isplitl [HK]; · iexact HK
    isplitl [HV]; · iexact HV
    isplitl [Hs]; · iexact Hs
    iexact Hz
  unfold owing
  iintro ⟨⟨%W', HO⟩, Hc, H0, H1, H2, H3, HK, HV, Hs, Hz⟩
  unfold bodyPost Φ₁ finish Dat.owesAt Pipeline.owesWithin
  rw [show (dats m ρ 0 c).owed t0_0.succ = 0 from rfl]
  isplitl [Hc Hi Hz HK HV Hs]
  · isplitl [Hc Hi Hz HK HV]
    · isplitl [Hc Hi Hz]
      · isplitl [Hc]; · iexact Hc
        isplitl [Hi] <;> iassumption
      isplitl [HK] <;> iassumption
    iexact Hs
  isplitl [HO]
  · iexists W'
    isplitr; · ipureintro; exact fun _ _ => Or.inl trivial
    iexact HO
  isplitl [H0]; · iapply (stg_intro c cc0_stg0_0 _); iexact H0
  isplitl [H1]; · iapply (stg_intro c cc0_stg1_0 _); iexact H1
  isplitl [H2]; · iapply (stg_intro c cc0_stg2_0 _); iexact H2
  iapply (out_stg m c); iexact H3

set_option maxRecDepth 16384 in
/-- What the launch asks of the body. -/
theorem body_obligation (c : Dev nD) : BodyObligation (dats (F := F) m ρ 0 c) (defs₀ (F := F)) 𝒱₀ () Set.univ := fun t => by
  rw [fin_N0 t]
  rw [over_windows, over_windows]
  simp only [owns_whole]
  exact sound_body m ρ c

/-! ## The launch's side conditions -/

theorem ownSemFacts : Pipeline.OwnSemFacts cfg0.spec osem := by decide

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), (initOf ringCells ringToks, 1))

theorem hold_eq (c : Dev nD) (b : Ref sig .tc) (f : Buf (Elt F) ((c : Thread nD τ).loc b)) : (hold c fullShare b f : sProp 𝕄) = ((c : Thread nD τ).loc b ↦{fullShare} f) := by
  unfold hold; rw [View.set_whole]

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ H' (carried (blocksOf m)) c)
      ⊢ |={Set.univ}=> iprop(start m c ∗ emp) := by
  rw [Pipeline.unscopedRestP_none, unscopedRest0_eq]
  unfold start
  rw [hold_eq, hold_eq]
  iintro ⟨⟨HK, HV⟩, Hlev, Hcr, -, HG⟩
  ihave Hc := (creds (F := F) c) $$ Hcr
  imodintro
  isplitl
  · isplitl [HG]; · iexact HG
    isplitl [Hc]; · iexact Hc
    isplitl [Hlev]; · iexact Hlev
    isplitl [HK]; · iexact HK
    iexact HV
  · iempintro

theorem scratch_eq (c : Dev nD) : (scratch c : sProp 𝕄) = Pipeline.scopedRest cfg0.spec c := by
  rw [scopedRest0_eq]; unfold scratch; simp only [hold_eq]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scratch_eq]
  unfold Φ₀
  iintro ⟨Hs, -, Hr⟩
  isplitl [Hs] <;> iassumption

/-- What stays of a device after the region: the barrier's semaphore at zero, the keys and the values untouched. -/
def left (c : Dev nD) : sProp 𝕄 :=
  iprop(unscopedSems0 c ∗ hold c fullShare main_arg2 (blocksOf m c).k ∗ hold c fullShare main_arg3 (blocksOf m c).v)

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, ← scratch_eq]
  unfold Φ₁ finish left
  iintro ⟨⟨Hz, HK, HV⟩, Hs⟩
  ihave Hz := (sems_join (F := F) c) $$ Hz
  icases Hz with ⟨HU, HO⟩
  isplitl [HU HK HV]
  · isplitl [HU]; · iexact HU
    isplitl [HK] <;> iassumption
  isplitl [HO] <;> iassumption

theorem waits (c : Dev nD) : (levAts L lv : sProp 𝕄) ⊢ Pipeline.cellsWaits cfgs (dats m ρ) () 0 c :=
  Pipeline.cellsWaits_intro cfgs (dats m ρ) () 0 c fun w s t => by
    have hs : lv ((c : Thread nD τ), .dma (((cfgs 0).win w).sem s)) () = 0 :=
      lv_other c _ (fun h => by cases h) (by fin_cases w <;> fin_cases s <;> decide)
    rcases t with ⟨_ | _, ht⟩
    · exact mayWait_launch c _ hs
    · rw [show (dats m ρ 0 c).owed ⟨_ + 1, ht⟩ = 0 from rfl, MayWait_zero]; iintro -; iempintro

/-! ## The run -/

/-- What is read of a device at the end, besides the windows' arrays: its unscoped semaphores at zero and the two arrays no
    window stages as they were. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2) ∧ s.mem ((c : Thread nD τ).loc main_arg3) = m ((c : Thread nD τ).loc main_arg3)

theorem read_left (c : Dev nD) (s' : Phys nD τ sig (Elt F)) :
    iprop(left m c ∗ SI s') ⊢ (|={Set.univ}=> iprop(⌜QY m c s'.mem⌝ ∗ SI s') : sProp 𝕄) := by
  unfold left
  rw [hold_eq, hold_eq]
  iintro ⟨⟨HU, HK, HV⟩, HSI⟩
  icombine HSI HK gives %hk
  icombine HSI HV gives %hv
  imod (Pipeline.unscopedSems0_read (X := unscopedSems0 c) (c := c) fupd_intro s') $$ [HU HSI] with ⟨%hs, HSI⟩
  · isplitl [HU] <;> iassumption
  imodintro
  isplitr; · ipureintro; exact ⟨hs, funext fun i => hk i (Finset.mem_univ i), funext fun i => hv i (Finset.mem_univ i)⟩
  iexact HSI

/-- What holds at the end: every window's array at its last contents, and the keys' and the values' arrays as they were. -/
def Final (r : PUnit × MemSt nD τ sig (Elt F)) : Prop := ∀ c : Dev nD,
  (∀ w : Fin cfg0.W, r.2.mem ((cfg0.win w).arr.view.loc (c : Thread nD τ)) = (dats m ρ 0 c).arrAt w cfg0.N)
    ∧ r.2.mem ((c : Thread nD τ).loc main_arg2) = m ((c : Thread nD τ).loc main_arg2) ∧ r.2.mem ((c : Thread nD τ).loc main_arg3) = m ((c : Thread nD τ).loc main_arg3)

set_option maxRecDepth 65536 in
/-- From any memory with zero counters, for any float values: every fair execution of the four devices ends, with `Final` and
    every semaphore at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owe₀) (howed₀ := fun _ => rfl) (howedN := fun _ => rfl)
    (L := L) (lv := lv) (hL := L_of_ne) (hwaits := waits m ρ)
    (G := G (carried (blocksOf m))) (G' := H' (carried (blocksOf m))) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_ring (carried (blocksOf m))) $$ HX with HG
      imodintro
      isplitl [HP] <;> iassumption)
    (hglob := glob (carried (blocksOf m)))
    (hA := fun _ _ => rfl) (hpf := fun _ k => k.elim0)
    (X := start m) (Y := left m) (Z := fun _ => iprop(emp))
    (hX := start_intro m ρ) (hin := phi0_intro m ρ) (hout := phi1_exit m ρ)
    (QY := QY m)
    (hY := fun c s' => by
      iintro ⟨Hl, -, HSI⟩
      iapply (read_left m c s')
      isplitl [Hl] <;> iassumption)
    (hQ := fun _ h hs => ⟨fun c => ⟨(h c).1, (h c).2.2.2⟩, sem_eq_zero hs fun c => (h c).2.2.1⟩)

end Cert.Ring
-- ==== Proof.Frames.lean ====
/-
# The frames

Each program ends with its arguments as they were and every semaphore at zero. The kernel's is the run of `Launch` with the
values dropped, at the machine's floats and at the exact ones.
-/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Ring

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- `Final` says that the five arguments are as they were. -/
theorem args_of_final {r : PUnit × MemSt nD τ sig (Elt F)} (h : Final m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 (0 : Fin 4)).trans ((dats m ρ 0 c).arrAt_in (0 : Fin 4) rfl _), ((h c).1 (1 : Fin 4)).trans ((dats m ρ 0 c).arrAt_in (1 : Fin 4) rfl _),
    (h c).2.1, (h c).2.2, ((h c).1 (2 : Fin 4)).trans ((dats m ρ 0 c).arrAt_in (2 : Fin 4) rfl _)⟩

/-- The frame, at any floats. -/
theorem frame_main : θ_run defs (onTc (τ := τ) (main (F := F))) (s₀ m ρ) (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => args_of_final m ρ h.1 c, h.2⟩) (run_main m ρ)

end Cert.Ring

namespace Cert.Proof

set_option maxRecDepth 65536

open Idealize.ShloMosaic Idealize.SL.Sem

/-- The kernel and its reading at exact floats are the same text: the same body, -/
theorem body_same : Cert.Kernel.cc0_body (F := Bits) = Cert.KernelIdeal.cc0_body (F := Bits) := rfl
/-- the same table of kernels, -/
theorem table_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | ⟨0, _⟩, (t, s) => dsimp only; rw [body_same]
/-- and of the region. -/
theorem defs_same : Cert.Kernel.defs (F := Bits) = Cert.KernelIdeal.defs (F := Bits) := by
  unfold Cert.Kernel.defs Cert.KernelIdeal.defs
  rw [table_same]
  rfl

/-- The kernel at the machine's floats. -/
theorem frame_kernel : Cert.quiescent_Kernel := by
  intro m ρ _
  rw [defs_same]
  exact Cert.Ring.frame_main (F := Bits) m ρ
/-- The kernel at exact floats. -/
theorem frame_kernelIdeal : Cert.quiescent_KernelIdeal := fun m ρ _ => Cert.Ring.frame_main (F := Ideal) m ρ
/-- The reference: it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Softmax.lean ====
/-
# The softmax of two halves, over the extended reals

A softmax that runs over two halves of the keys, keeping a running greatest score, a running sum of weights and a running
weighted sum of values, gives the quotient of the plain weighted sum by the plain sum of weights when every score is real.  The
values may be infinite: a positive real factor passes through a sum of extended reals.
-/
module

public import Idealize.ShloMosaic.PureOps.Ideal

@[expose] public section

noncomputable section

namespace Cert.Maths

open Idealize.ShloMosaic
open scoped BigOperators

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩
theorem IsReal.add {x y : EReal} (hx : IsReal x) (hy : IsReal y) : IsReal (x + y) := by
  obtain ⟨a, rfl⟩ := hx; obtain ⟨b, rfl⟩ := hy
  exact ⟨a + b, (EReal.coe_add a b).symm⟩
/-- A finite sum of reals is real. -/
theorem IsReal.sum {ι : Type} (s : Finset ι) {f : ι → EReal} (h : ∀ i, IsReal (f i)) : IsReal (∑ i ∈ s, f i) := by
  classical
  induction s using Finset.induction_on with
  | empty => exact ⟨0, by simp⟩
  | insert a t ha ih => rw [Finset.sum_insert ha]; exact (h a).add ih
/-- An extended real whose absolute value is below `+∞` is real. -/
theorem IsReal.of_abs {x : EReal} (h : max x (-x) < ⊤) : IsReal x := by
  induction x with
  | bot => simp at h
  | top => simp at h
  | coe r => exact ⟨r, rfl⟩

/-- The sum of reals, taken among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a t ha ih => rw [Finset.sum_insert ha, Finset.sum_insert ha, EReal.coe_add, ih]

/-- A nonnegative real factor passes through a sum of extended reals, -/
theorem real_mul_sum {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a t ha ih =>
    rw [Finset.sum_insert ha, Finset.sum_insert ha, EReal.left_distrib_of_nonneg_of_ne_top (by exact_mod_cast hc) (EReal.coe_ne_top c), ih]
/-- on either side. -/
theorem sum_mul_real {ι : Type} (s : Finset ι) {c : ℝ} (hc : 0 ≤ c) (f : ι → EReal) :
    (∑ i ∈ s, f i) * (c : EReal) = ∑ i ∈ s, f i * (c : EReal) := by
  rw [mul_comm, real_mul_sum s hc]
  exact Finset.sum_congr rfl fun i _ => mul_comm _ _

/-- The greatest of finitely many reals, from `-∞`, is real. -/
theorem fold_max_real {ι : Type} [Fintype ι] [Nonempty ι] (s : ι → ℝ) :
    ∃ r : ℝ, Finset.univ.fold max (⊥ : EReal) (fun j => ((s j : ℝ) : EReal)) = (r : EReal) := by
  have h : ∀ t : Finset ι, t.fold max (⊥ : EReal) (fun j => ((s j : ℝ) : EReal)) = ⊥ ∧ t = ∅
      ∨ ∃ r : ℝ, t.fold max (⊥ : EReal) (fun j => ((s j : ℝ) : EReal)) = (r : EReal) := by
    classical
    intro t
    induction t using Finset.induction_on with
    | empty => exact .inl ⟨by simp, rfl⟩
    | insert a t ha ih =>
      refine .inr ?_
      rw [Finset.fold_insert ha]
      rcases ih with ⟨h, _⟩ | ⟨r, h⟩
      · exact ⟨s a, by rw [h]; exact max_eq_left bot_le⟩
      · exact ⟨max (s a) r, by rw [h]; exact (EReal.coe_strictMono.monotone.map_max).symm⟩
  rcases h Finset.univ with ⟨_, h⟩ | h
  · exact absurd h Finset.univ_nonempty.ne_empty
  · exact h

theorem exp_coe (r : ℝ) : Ideal.exp (r : EReal) = ((Real.exp r : ℝ) : EReal) := rfl
/-- The weight of a score taken from the greatest one. -/
theorem exp_sub_coe (a b : ℝ) : Ideal.exp ((a : EReal) - (b : EReal)) = ((Real.exp a * Real.exp (-b) : ℝ) : EReal) := by
  rw [← EReal.coe_sub, exp_coe, sub_eq_add_neg, Real.exp_add]
theorem exp_bot_sub (m : ℝ) : Ideal.exp ((⊥ : EReal) - (m : EReal)) = 0 := by
  rw [sub_eq_add_neg, EReal.bot_add]; rfl

/-- The value of a query: the weighted sum of the values over the sum of the weights. -/
def mix {ι : Type} [Fintype ι] (s v : ι → EReal) : EReal :=
  Ideal.div (∑ j, Ideal.exp (s j) * v j) (∑ j, Ideal.exp (s j))

/-- A common positive factor of a numerator and of a positive real denominator cancels. -/
theorem div_scale {c l : ℝ} (hc : 0 < c) (hl : 0 < l) (a : EReal) :
    Ideal.div ((c : EReal) * a) (((c * l : ℝ)) : EReal) = Ideal.div a (l : EReal) := by
  rw [Ideal.div_coe (mul_pos hc hl).ne', Ideal.div_coe hl.ne', mul_comm (c : EReal) a, mul_assoc, ← EReal.coe_mul]
  congr 2
  field_simp

/-- The softmax over two halves of the keys with a running greatest score. -/
def online {ι κ : Type} [Fintype ι] [Fintype κ] (s1 v1 : ι → EReal) (s2 v2 : κ → EReal) : EReal :=
  let m1 : EReal := max ⊥ (Finset.univ.fold max ⊥ s1)
  let m2 : EReal := max m1 (Finset.univ.fold max ⊥ s2)
  Ideal.div
    ((0 * Ideal.exp (⊥ - m1) + ∑ j, v1 j * Ideal.exp (s1 j - m1)) * Ideal.exp (m1 - m2) + ∑ j, v2 j * Ideal.exp (s2 j - m2))
    ((0 * Ideal.exp (⊥ - m1) + ∑ j, Ideal.exp (s1 j - m1)) * Ideal.exp (m1 - m2) + ∑ j, Ideal.exp (s2 j - m2))

/-- A half's weighted sum, taken from the greatest score `m`, is the plain one scaled. -/
theorem half_values {ι : Type} [Fintype ι] (s : ι → ℝ) (v : ι → EReal) (m : ℝ) :
    ∑ j, v j * Ideal.exp ((s j : EReal) - (m : EReal)) = ((Real.exp (-m) : ℝ) : EReal) * ∑ j, Ideal.exp (s j : EReal) * v j := by
  rw [real_mul_sum _ (Real.exp_pos _).le]
  refine Finset.sum_congr rfl fun j _ => ?_
  rw [exp_sub_coe, exp_coe, EReal.coe_mul, mul_comm (v j), mul_comm ((Real.exp (s j) : ℝ) : EReal), mul_assoc]
/-- A half's sum of weights, likewise. -/
theorem half_weights {ι : Type} [Fintype ι] (s : ι → ℝ) (m : ℝ) :
    ∑ j, Ideal.exp ((s j : EReal) - (m : EReal)) = ((Real.exp (-m) * ∑ j, Real.exp (s j) : ℝ) : EReal) := by
  rw [Finset.mul_sum, coe_sum]
  refine Finset.sum_congr rfl fun j _ => ?_
  rw [exp_sub_coe, mul_comm]

/-- With real scores the softmax over two halves is the plain one over all the keys. -/
theorem online_eq {ι κ : Type} [Fintype ι] [Fintype κ] [Nonempty ι] [Nonempty κ] (s1 : ι → ℝ) (v1 : ι → EReal) (s2 : κ → ℝ) (v2 : κ → EReal) :
    online (fun j => (s1 j : EReal)) v1 (fun j => (s2 j : EReal)) v2
      = mix (Sum.elim (fun j => (s1 j : EReal)) (fun j => (s2 j : EReal))) (Sum.elim v1 v2) := by
  obtain ⟨a, ha⟩ := fold_max_real s1
  obtain ⟨b, hb⟩ := fold_max_real s2
  have h1 : max (⊥ : EReal) (a : EReal) = (a : EReal) := max_eq_right bot_le
  have h2 : max (a : EReal) (b : EReal) = ((max a b : ℝ) : EReal) := (EReal.coe_strictMono.monotone.map_max).symm
  have hp1 : 0 < ∑ j, Real.exp (s1 j) := Finset.sum_pos (fun j _ => Real.exp_pos _) Finset.univ_nonempty
  have hp2 : 0 < ∑ j, Real.exp (s2 j) := Finset.sum_pos (fun j _ => Real.exp_pos _) Finset.univ_nonempty
  have hcan : Real.exp (-a) * (Real.exp a * Real.exp (-max a b)) = Real.exp (-max a b) := by
    rw [← mul_assoc, ← Real.exp_add]; simp
  unfold online mix
  simp only [ha, hb, h1, h2, zero_mul, zero_add, half_values, half_weights, Fintype.sum_sum_type, Sum.elim_inl, Sum.elim_inr]
  rw [exp_sub_coe]
  generalize hA : ∑ j, Ideal.exp (s1 j : EReal) * v1 j = A
  generalize hB : ∑ j, Ideal.exp (s2 j : EReal) * v2 j = B
  have e1 : ((Real.exp (-a) : ℝ) : EReal) * A * ((Real.exp a * Real.exp (-max a b) : ℝ) : EReal) = ((Real.exp (-max a b) : ℝ) : EReal) * A := by
    rw [mul_comm, ← mul_assoc, ← EReal.coe_mul, mul_comm (Real.exp a * _), hcan]
  have e2 : (((Real.exp (-a) * ∑ j, Real.exp (s1 j) : ℝ) : EReal)) * ((Real.exp a * Real.exp (-max a b) : ℝ) : EReal)
      = ((Real.exp (-max a b) * ∑ j, Real.exp (s1 j) : ℝ) : EReal) := by
    rw [← EReal.coe_mul]
    congr 1
    rw [mul_right_comm, hcan]
  rw [e1, e2, ← EReal.left_distrib_of_nonneg_of_ne_top (by exact_mod_cast (Real.exp_pos _).le) (EReal.coe_ne_top _), ← EReal.coe_add, ← mul_add,
    div_scale (Real.exp_pos _) (add_pos hp1 hp2)]
  simp only [exp_coe, ← coe_sum, ← EReal.coe_add]

end Cert.Maths

end
-- ==== Proof.Heads.lean ====
/-
# What one block computes, over the extended reals

The body's payloads read at one element: casts are the identity, products are sums over the contracted axis.
-/
module

public import proofs.«01_k».proof.Proof.Values
public import proofs.«01_k».proof.Proof.Softmax
public import Idealize.ShloMosaic.Lib.Pointwise

@[expose] public section

set_option maxRecDepth 16384

noncomputable section

namespace Cert.Ring

open Cert.KernelIdeal Cert.KernelIdeal.Gen Cert.Maths
open Idealize.ShloMosaic
open Idealize.ShloMosaic.TcCoe

theorem pay1_apply (v : Vec Ideal S512x1024 .f32) (i : Fin 512) (k : Fin 1024) : k0_pay1 v (ix2 i k) = v (ix2 i k) := by
  pointwise [k0_pay1]
theorem pay2_apply (v : Vec Ideal S1024x1024 .f32) (i k : Fin 1024) :
    k0_pay2 v (ix2 i k) = v (ix2 i k) * Ideal.ofBits .f32 0x3DB504F3#32 := by
  pointwise [k0_pay2]
theorem pay3_apply (v : Vec Ideal S1024x1024 .f32) (i k : Fin 1024) : k0_pay3 v (ix2 i k) = v (ix2 i k) := by
  pointwise [k0_pay3]
theorem kvOf_apply (D : Vec Ideal S2048x128 .f32) (j : Fin 2048) (e : Fin 128) : kvOf D (ix3 0 j e) = D (ix2 j e) := by
  pointwise [kvOf, k0_pay7]
theorem pay37_apply (a : Vec Ideal S512x1024 .bf16) (w : Vec Ideal S1024x1024 .bf16) (i : Fin 512) (n : Fin 1024) :
    k0_pay37 a w (ix2 i n) = ∑ k : Fin 1024, a (ix2 i k) * w (ix2 k n) := by
  pointwise [k0_pay37]
theorem pay38_apply (a : Vec Ideal S512x1024 .bf16) (w : Vec Ideal S1024x1024 .bf16) (i : Fin 512) (n : Fin 1024) :
    k0_pay38 a w (ix2 i n) = ∑ k : Fin 1024, a (ix2 i k) * w (ix2 k n) := by
  pointwise [k0_pay38]
/-- One head's attention is the softmax of its scores over all the keys. -/
theorem pay8_apply (q : Vec Ideal S512x128 .bf16) (K V : Vec Ideal S1x2048x128 .bf16) (i : Fin 512) (e : Fin 128) :
    k0_pay8 q K V (ix2 i e) = mix (fun j : Fin 2048 => ∑ d : Fin 128, q (ix2 i d) * K (ix3 0 j d)) (fun j => V (ix3 0 j e)) := by
  pointwise [k0_pay8, mix]
theorem partOf_apply (a : Vec Ideal S512x1024 .bf16) (w : Vec Ideal S1024x1024 .bf16) (i : Fin 512) (n : Fin 1024) :
    partOf a w (ix2 i n) = ∑ k : Fin 1024, a (ix2 i k) * w (ix2 k n) := by
  pointwise [partOf, k0_pay37]
theorem sumOf_apply (a b : Vec Ideal S512x1024 .bf16) (i : Fin 512) (n : Fin 1024) :
    sumOf a b (ix2 i n) = a (ix2 i n) + b (ix2 i n) := by
  pointwise [sumOf, k0_pay77]
theorem pay83_apply (a : Vec Ideal S128x1024 .bf16) (w : Vec Ideal S1024x1024 .bf16) (X : Vec Ideal S128x1024 .bf16) (i : Fin 128) (n : Fin 1024) :
    k0_pay83 a w (shapeCast S1x128x1024 X shapeCasts_S128x1024_S1x128x1024) (ix2 i n) = (∑ k : Fin 1024, a (ix2 i k) * w (ix2 k n)) + X (ix2 i n) := by
  pointwise [k0_pay83]
theorem pay88_apply (a : Vec Ideal S128x1024 .f32) (X : Vec Ideal S128x1024 .bf16) (i : Fin 128) (n : Fin 1024) :
    k0_pay88 a (shapeCast S1x128x1024 X shapeCasts_S128x1024_S1x128x1024) (ix2 i n) = a (ix2 i n) + X (ix2 i n) := by
  pointwise [k0_pay88]

end Cert.Ring

end
-- ==== Proof.Staged.lean ====
/-
# What the staged blocks hold

A device's blocks are its arguments whole; a head of the keys or of the values is a plane of the argument; and the result's
array ends as the result's matrix with a leading axis.
-/
module

public import proofs.«01_k».proof.Proof.Launch
public import proofs.«01_k».proof.Proof.Heads
public import Idealize.ShloMosaic.Lib.Pipeline.ValueKit.Geometry
public import Idealize.ShloMosaic.Lib.Pointwise.IndexBridge

@[expose] public section

set_option maxRecDepth 16384

noncomputable section

namespace Cert.Ring

open Cert.KernelIdeal Cert.KernelIdeal.Gen Cert.Maths
open Idealize.ShloMosaic
open Idealize.ShloMosaic.TcCoe

variable {F : FTy → Type} [FloatOps F]

/-- The matrix of a block of activations, read at an element. -/
theorem xin_apply (f : xin.view.ty.Contents (Elt F)) (i : Fin 512) (k : Fin 1024) :
    xin.view.readAt (Elt F) (Rect.unit ![0, 0] S512x1024.size inb_S512x1024_S512x1024_0_0).toLoadRect f (ix2 i k) = f (ix3 (0 : Fin 1) i k) := by
  have hx : (Rect.unit (s := S512x1024) ![0, 0] S512x1024.size inb_S512x1024_S512x1024_0_0).emb (ix2 i k) = ix2 i k := by
    refine funext fun a => Fin.ext ?_
    match a with
    | ⟨0, _⟩ => show 0 + 1 * i.val = i.val; omega
    | ⟨1, _⟩ => show 0 + 1 * k.val = k.val; omega
  refine Eq.trans (show _ = xin.view.read (Elt F) f ((Rect.unit (s := S512x1024) ![0, 0] S512x1024.size inb_S512x1024_S512x1024_0_0).emb (ix2 i k)) from rfl) ?_
  rw [hx]
  refine (congrFun (Memref.read_squeeze_slice (Val := Elt F) (Memref.whole cc0_stg0_0 : Memref sig .tc .vmem S1x512x1024 .f32) _ _ _ shapeCasts_S1x512x1024_S512x1024 f) _).trans ?_
  pointwise
  refine congrArg f (funext fun a => Fin.ext ?_)
  match a with
  | ⟨0, _⟩ => rfl
  | ⟨1, _⟩ => show 0 + 1 * i.val = i.val; omega
  | ⟨2, _⟩ => show 0 + 1 * k.val = k.val; omega

/-- The matrix of the result, likewise. -/
theorem outM_apply (f : outM.view.ty.Contents (Elt F)) (i : Fin 512) (k : Fin 1024) :
    outM.view.read (Elt F) f (ix2 i k) = f (ix3 (0 : Fin 1) i k) := by
  refine (congrFun (Memref.read_squeeze_slice (Val := Elt F) (Memref.whole cc0_stg3_0 : Memref sig .tc .vmem S1x512x1024 .f32) _ _ _ shapeCasts_S1x512x1024_S512x1024 f) _).trans ?_
  pointwise
  refine congrArg f (funext fun a => Fin.ext ?_)
  match a with
  | ⟨0, _⟩ => rfl
  | ⟨1, _⟩ => show 0 + 1 * i.val = i.val; omega
  | ⟨2, _⟩ => show 0 + 1 * k.val = k.val; omega

/-- A head of the keys or of the values, read at an element. -/
theorem fetched_apply (c : Dev nD) (M : Memref sig .tc .hbm S1x2048x32x128 .f32) (f : M.view.ty.Contents (Elt F)) (h : Fin 8) (j : Fin 2048) (e : Fin 128)
    (hh : 8 * c.val + h.val < 32) :
    fetched c M f h (ix2 j e) = M.view.read (Elt F) f (ix4 (0 : Fin 1) j (⟨8 * c.val + h.val, hh⟩ : Fin 32) e) := by
  have hoff := k0_off1_eq c h
  have hidx : (Rect.unit (s := S2048x32x128) (k0_off1 c (BitVec.ofNat 32 h.val)) S2048x1x128.size (off_inb c h)).emb (ix3 j (0 : Fin 1) e)
      = ix3 j (⟨8 * c.val + h.val, hh⟩ : Fin 32) e := by
    refine funext fun a => Fin.ext ?_
    have ho (a : Fin 3) : k0_off1 c (BitVec.ofNat 32 h.val) a = (![0, 8 * c.val + h.val, 0] : Fin 3 → ℕ) a := congrFun hoff a
    match a with
    | ⟨0, _⟩ => show k0_off1 c (BitVec.ofNat 32 h.val) 0 + 1 * j.val = j.val; rw [ho 0]; show 0 + 1 * j.val = j.val; omega
    | ⟨1, _⟩ => show k0_off1 c (BitVec.ofNat 32 h.val) 1 + 1 * 0 = 8 * c.val + h.val; rw [ho 1]; rfl
    | ⟨2, _⟩ => show k0_off1 c (BitVec.ofNat 32 h.val) 2 + 1 * e.val = e.val; rw [ho 2]; show 0 + 1 * e.val = e.val; omega
  unfold fetched
  refine (congrFun (Memref.read_squeeze_slice (Val := Elt F) ((M.slice (Rect.unit (s := S1x2048x32x128) ![0, 0, 0, 0] S1x2048x32x128.size inb_S1x2048x32x128_S1x2048x32x128_0_0_0_0) (fun _ => rfl)).squeeze
      S2048x32x128 squeezes_S1x2048x32x128_S2048x32x128)
      (Rect.unit (s := S2048x32x128) (k0_off1 c (BitVec.ofNat 32 h.val)) S2048x1x128.size (off_inb c h)) (fun _ => rfl) squeezes_S2048x1x128_S2048x128
      (by decide : S2048x1x128.ShapeCasts S2048x128) f) _).trans ?_
  pointwise
  refine Eq.trans (b := ((M.slice (Rect.unit (s := S1x2048x32x128) ![0, 0, 0, 0] S1x2048x32x128.size inb_S1x2048x32x128_S1x2048x32x128_0_0_0_0) (fun _ => rfl)).squeeze
      S2048x32x128 squeezes_S1x2048x32x128_S2048x32x128).view.read (Elt F) f (ix3 j (⟨8 * c.val + h.val, hh⟩ : Fin 32) e)) ?_ ?_
  · exact congrArg (fun z => ((M.slice (Rect.unit (s := S1x2048x32x128) ![0, 0, 0, 0] S1x2048x32x128.size inb_S1x2048x32x128_S1x2048x32x128_0_0_0_0) (fun _ => rfl)).squeeze
      S2048x32x128 squeezes_S1x2048x32x128_S2048x32x128).view.read (Elt F) f z) hidx
  · refine (congrFun (Memref.read_squeeze_slice (Val := Elt F) M
      (Rect.unit (s := S1x2048x32x128) ![0, 0, 0, 0] S1x2048x32x128.size inb_S1x2048x32x128_S1x2048x32x128_0_0_0_0) (fun _ => rfl) squeezes_S1x2048x32x128_S2048x32x128
      (by decide : S1x2048x32x128.ShapeCasts S2048x32x128) f) _).trans ?_
    pointwise
    refine congrArg (View.read (Elt F) _ f) (funext fun a => Fin.ext ?_)
    match a with
    | ⟨0, _⟩ => rfl
    | ⟨1, _⟩ => show 0 + 1 * j.val = j.val; omega
    | ⟨2, _⟩ => show 0 + 1 * (8 * c.val + h.val) = 8 * c.val + h.val; omega
    | ⟨3, _⟩ => show 0 + 1 * e.val = e.val; omega

variable (m : (ℓ : Loc nD τ sig) → Buf (Elt F) ℓ) (ρ : Dev nD → PrngReg)

/-- Each staged block is its argument whole. -/
theorem blocks_x (c : Dev nD) : (blocksOf m c).x = m ((c : Thread nD τ).loc main_arg0) := by
  funext i
  refine congrArg (m ((c : Thread nD τ).loc main_arg0)) (funext fun a => Fin.ext ?_)
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega
theorem blocks_wq (c : Dev nD) : (blocksOf m c).wq = m ((c : Thread nD τ).loc main_arg1) := by
  funext i
  refine congrArg (m ((c : Thread nD τ).loc main_arg1)) (funext fun a => Fin.ext ?_)
  match a with
  | ⟨0, _⟩ => show 0 + 1 * (i 0).val = (i 0).val; omega
  | ⟨1, _⟩ => show 0 + 1 * (i 1).val = (i 1).val; omega
theorem blocks_wo (c : Dev nD) : (blocksOf m c).wo = m ((c : Thread nD τ).loc main_arg4) := by
  funext i
  refine congrArg (m ((c : Thread nD τ).loc main_arg4)) (funext fun a => Fin.ext ?_)
  match a with
  | ⟨0, _⟩ => show 0 + 1 * (i 0).val = (i 0).val; omega
  | ⟨1, _⟩ => show 0 + 1 * (i 1).val = (i 1).val; omega

/-- The result's array ends as the staging buffer. -/
theorem arr_out (c : Dev nD) : (dats m ρ 0 c).arrAt (3 : Fin 4) cfg0.N = outAt m c := by
  refine (dats m ρ 0 c).arrAt_eq_of_after_last (3 : Fin 4) t0_0 (by decide +kernel) _ fun j => ?_
  rfl

/-- The result's array at the end, at an element. -/
theorem final_out (c : Dev nD) (i : Fin 512) (k : Fin 1024) :
    (dats m ρ 0 c).arrAt (3 : Fin 4) cfg0.N (ix3 (0 : Fin 1) i k) = result (blocksOf m) c (ix2 i k) := by
  rw [arr_out, ← read_outAt m c]
  exact (outM_apply (outAt m c) i k).symm

end Cert.Ring

end
-- ==== Proof.Shares.lean ====
/-
# What the kernel's result is, over the extended reals

A device's block of the result is the sum of four partial products, one per device: that device's attention of the block's rows
over its eight heads, times its rows of the output weights.
-/
module

public import proofs.«01_k».proof.Proof.Staged

@[expose] public section

set_option maxRecDepth 16384

noncomputable section

namespace Cert.Ring

open Cert.KernelIdeal Cert.KernelIdeal.Gen Cert.Maths
open Idealize.ShloMosaic
open Idealize.ShloMosaic.TcCoe

/-- A head's columns, read at an element; -/
theorem colOf_apply (q : Vec Ideal S512x1024 .bf16) (h : Fin 8) (i : Fin 512) (d : Fin 128) (hd : 128 * h.val + d.val < 1024) :
    colOf q h (ix2 i d) = q (ix2 i (⟨128 * h.val + d.val, hd⟩ : Fin 1024)) := by
  refine congrArg q (funext fun a => Fin.ext ?_)
  match a with
  | ⟨0, _⟩ => show 0 + 1 * i.val = i.val; omega
  | ⟨1, _⟩ => show 128 * h.val + 1 * d.val = 128 * h.val + d.val; omega
/-- a chunk's rows; -/
theorem rowsOf_apply {e : EltTy} (X : Vec Ideal S512x1024 e) (k : Fin 4) (i : Fin 128) (n : Fin 1024) (hi : 128 * k.val + i.val < 512) :
    rowsOf X k (ix2 i n) = X (ix2 (⟨128 * k.val + i.val, hi⟩ : Fin 512) n) := by
  refine congrArg X (funext fun a => Fin.ext ?_)
  match a with
  | ⟨0, _⟩ => show 128 * k.val + 1 * i.val = 128 * k.val + i.val; omega
  | ⟨1, _⟩ => show 0 + 1 * n.val = n.val; omega

/-- The head of a device's eight that a column belongs to, -/
def ownHead (k : Fin 1024) : Fin 8 := ⟨k.val / 128, by omega⟩
/-- and its place there. -/
def ownLane (k : Fin 1024) : Fin 128 := ⟨k.val % 128, by omega⟩

/-- A block's attention over a device's heads, at an element. -/
theorem attnOf_apply (x : Vec Ideal S512x1024 .bf16) (wq : Vec Ideal S1024x1024 .bf16) (KK VV : Fin 8 → Vec Ideal S1x2048x128 .bf16) (i : Fin 512) (k : Fin 1024) :
    attnOf x wq KK VV (ix2 i k)
      = mix (fun j : Fin 2048 => ∑ d : Fin 128, (∑ t : Fin 1024, x (ix2 i t) * wq (ix2 t (⟨128 * (ownHead k).val + d.val, by omega⟩ : Fin 1024))) * KK (ownHead k) (ix3 (0 : Fin 1) j d))
          (fun j => VV (ownHead k) (ix3 (0 : Fin 1) j (ownLane k))) := by
  have h : attnOf x wq KK VV (ix2 i k) = k0_pay8 (colOf (k0_pay38 x wq) (ownHead k)) (KK (ownHead k)) (VV (ownHead k)) (ix2 i (ownLane k)) :=
    congrArg (k0_pay8 (colOf (k0_pay38 x wq) (ownHead k)) (KK (ownHead k)) (VV (ownHead k))) (ix2_eq_valueIdx i (ownLane k)).symm
  rw [h, pay8_apply]
  have hq : ∀ d : Fin 128, colOf (k0_pay38 x wq) (ownHead k) (ix2 i d)
      = ∑ t : Fin 1024, x (ix2 i t) * wq (ix2 t (⟨128 * (ownHead k).val + d.val, by omega⟩ : Fin 1024)) := fun d => by
    rw [colOf_apply _ _ _ _ (by omega), pay38_apply]
  simp only [hq]

theorem lastOf_apply (a : Vec Ideal S512x1024 .bf16) (w : Vec Ideal S1024x1024 .bf16) (X : Vec Ideal S512x1024 .bf16) (k : Fin 4) (i : Fin 128) (n : Fin 1024)
    (hi : 128 * k.val + i.val < 512) :
    lastOf a w X k (ix2 i n) = (∑ t : Fin 1024, a (ix2 (⟨128 * k.val + i.val, hi⟩ : Fin 512) t) * w (ix2 t n)) + X (ix2 (⟨128 * k.val + i.val, hi⟩ : Fin 512) n) := by
  unfold lastOf
  rw [pay83_apply]
  simp only [rowsOf_apply _ _ _ _ hi]

theorem resultOf_apply (own : Vec Ideal S512x1024 .f32) (Y : Fin 4 → Vec Ideal S128x1024 .bf16) (i : Fin 512) (n : Fin 1024) :
    resultOf own Y (ix2 i n) = own (ix2 i n) + Y ⟨i.val / 128, by omega⟩ (ix2 (⟨i.val % 128, by omega⟩ : Fin 128) n) := by
  have hi : 128 * (i.val / 128) + i.val % 128 < 512 := by omega
  refine (congrArg (k0_pay88 (rowsOf own ⟨i.val / 128, by omega⟩) (shapeCast S1x128x1024 (Y ⟨i.val / 128, by omega⟩) shapeCasts_S128x1024_S1x128x1024))
    (ix2_eq_valueIdx (⟨i.val % 128, by omega⟩ : Fin 128) n).symm).trans ?_
  rw [pay88_apply, rowsOf_apply _ _ _ _ hi]
  congr 3
  exact Fin.ext (Nat.div_add_mod i.val 128)

variable (B : Dev nD → Blocks Ideal)

/-- Device `d`'s partial product for a row of device `c`'s block. -/
def product (d c : Dev nD) (i : Fin 512) (n : Fin 1024) : EReal :=
  ∑ k : Fin 1024, att B d (act B c) (ix2 i k) * woOf B d (ix2 k n)

theorem sum1_apply (c : Dev nD) (i : Fin 512) (n : Fin 1024) : sum1 B c (ix2 i n) = product B c (prv c) i n := partOf_apply _ _ _ _
theorem sum2_apply (c : Dev nD) (i : Fin 512) (n : Fin 1024) :
    sum2 B c (ix2 i n) = product B c (prv (prv c)) i n + product B (prv c) (prv (prv c)) i n := by
  unfold sum2
  rw [sumOf_apply, partOf_apply, sum1_apply]
  rfl

/-- A device's block of the result at an element. -/
theorem result_apply (c : Dev nD) (i : Fin 512) (n : Fin 1024) :
    result B c (ix2 i n) = product B c c i n + (product B (prv c) (prv (prv (prv (prv c)))) i n
      + (product B (prv (prv c)) (prv (prv (prv (prv c)))) i n + product B (prv (prv (prv c))) (prv (prv (prv (prv c)))) i n)) := by
  have hi : 128 * (i.val / 128) + i.val % 128 < 512 := by omega
  have he : (⟨128 * (i.val / 128) + i.val % 128, hi⟩ : Fin 512) = i := Fin.ext (Nat.div_add_mod i.val 128)
  unfold result
  rw [resultOf_apply, pay37_apply]
  unfold sum3
  rw [lastOf_apply _ _ _ _ _ _ hi]
  simp only [he]
  rw [sum2_apply]
  rfl

end Cert.Ring

end
-- ==== Proof.Spec.lean ====
/-
# The mathematics of the layer

Scores, the attention of a row at a column of the concatenated heads, and the layer's result, over plain functions of the
arrays' coordinates.  The scale may be applied to the scores or to the query weights, and the softmax may run over the keys in
two halves.
-/
module

public import proofs.«01_k».proof.Proof.Softmax
public import Idealize.ShloMosaic.Lib.Pointwise.Sums

@[expose] public section

noncomputable section

namespace Cert.Maths

open Idealize.ShloMosaic
open scoped BigOperators

/-- The head that a column of the concatenated heads belongs to, -/
def head (k : Fin 4096) : Fin 32 := ⟨k.val / 128, by omega⟩
/-- its place there, -/
def lane (k : Fin 4096) : Fin 128 := ⟨k.val % 128, by omega⟩
/-- and the column at a place of a head. -/
def col (h : Fin 32) (d : Fin 128) : Fin 4096 := ⟨h.val * 128 + d.val, by omega⟩
/-- The keys of the first half, -/
def low (j : Fin 1024) : Fin 2048 := ⟨j.val, by omega⟩
/-- and of the second. -/
def high (j : Fin 1024) : Fin 2048 := ⟨1024 + j.val, by omega⟩

/-- The scale of the scores. -/
def scale : EReal := Ideal.ofBits .f32 0x3DB504F3#32

/-- It is a positive real. -/
theorem scale_real : ∃ r : ℝ, 0 ≤ r ∧ scale = (r : EReal) := by
  refine ⟨(11863283 : ℝ) * ((2 : ℝ) ^ 27)⁻¹, by positivity, ?_⟩
  unfold scale Ideal.ofBits Ideal.ieee
  simp
/-- The word of `-∞`. -/
theorem ofBits_neg_inf : Ideal.ofBits .f32 0xFF800000#32 = ⊥ := by
  simp [Ideal.ofBits, Ideal.ieee]
theorem ofBits_pos_inf : Ideal.ofBits .f32 0x7F800000#32 = ⊤ := by
  simp [Ideal.ofBits, Ideal.ieee]

section
variable (x : Fin 2048 → Fin 1024 → EReal) (wq : Fin 1024 → Fin 4096 → EReal) (kk vv : Fin 2048 → Fin 32 → Fin 128 → EReal)
  (wo : Fin 4096 → Fin 1024 → EReal)

/-- The score of a row's query against a key in a head. -/
def score (i : Fin 2048) (h : Fin 32) (j : Fin 2048) : EReal :=
  (∑ d : Fin 128, (∑ t : Fin 1024, x i t * wq t (col h d)) * kk j h d) * scale
/-- The same with the scale in the query weights. -/
theorem score_eq (i : Fin 2048) (h : Fin 32) (j : Fin 2048) :
    score x wq kk i h j = ∑ d : Fin 128, (∑ t : Fin 1024, x i t * (wq t (col h d) * scale)) * kk j h d := by
  obtain ⟨r, hr, hs⟩ := scale_real
  unfold score
  rw [hs, sum_mul_real _ hr]
  refine Finset.sum_congr rfl fun d _ => ?_
  rw [mul_right_comm, sum_mul_real _ hr]
  simp only [mul_assoc]
/-- Finite activations, query weights and keys give real scores. -/
theorem score_real (hx : ∀ i t, IsReal (x i t)) (hw : ∀ t k, IsReal (wq t k)) (hk : ∀ j h d, IsReal (kk j h d)) (i : Fin 2048) (h : Fin 32) (j : Fin 2048) :
    IsReal (score x wq kk i h j) := by
  obtain ⟨r, -, hs⟩ := scale_real
  exact (IsReal.sum _ fun d => (IsReal.sum _ fun t => (hx i t).mul (hw t _)).mul (hk j h d)).mul ⟨r, hs⟩

/-- A row's attention at a column of the concatenated heads. -/
def attended (i : Fin 2048) (k : Fin 4096) : EReal := mix (score x wq kk i (head k)) (fun j => vv j (head k) (lane k))
/-- The same by the softmax over the keys in two halves. -/
def attendedOnline (i : Fin 2048) (k : Fin 4096) : EReal :=
  online (fun j => score x wq kk i (head k) (low j)) (fun j => vv (low j) (head k) (lane k))
    (fun j => score x wq kk i (head k) (high j)) (fun j => vv (high j) (head k) (lane k))

/-- A sum over the keys is the sum over the two halves. -/
theorem sum_halves (f : Fin 2048 → EReal) : ∑ j, f j = (∑ j, f (low j)) + ∑ j, f (high j) :=
  Fin.sum_univ_two_halves 1024 1024 rfl f

theorem attendedOnline_eq (hx : ∀ i t, IsReal (x i t)) (hw : ∀ t k, IsReal (wq t k)) (hk : ∀ j h d, IsReal (kk j h d)) (i : Fin 2048) (k : Fin 4096) :
    attendedOnline x wq kk vv i k = attended x wq kk vv i k := by
  choose s hs using fun j => score_real x wq kk hx hw hk i (head k) j
  unfold attendedOnline attended
  simp only [hs]
  rw [online_eq (fun j => s (low j)) _ (fun j => s (high j))]
  unfold mix
  simp only [Fintype.sum_sum_type, Sum.elim_inl, Sum.elim_inr, sum_halves, hs]

/-- The layer's result at an element, from the attention. -/
def layer (a : Fin 2048 → Fin 4096 → EReal) (i : Fin 2048) (n : Fin 1024) : EReal := ∑ k : Fin 4096, a i k * wo k n

/-- Column `k` of device `c`'s eight heads. -/
def mine (c : Fin 4) (k : Fin 1024) : Fin 4096 := ⟨c.val * 1024 + k.val, by omega⟩
/-- Device `c`'s share of the result. -/
def share (a : Fin 2048 → Fin 4096 → EReal) (c : Fin 4) (i : Fin 2048) (n : Fin 1024) : EReal := ∑ k : Fin 1024, a i (mine c k) * wo (mine c k) n
/-- The result is the sum of the four devices' shares. -/
theorem layer_eq (a : Fin 2048 → Fin 4096 → EReal) (i : Fin 2048) (n : Fin 1024) :
    layer wo a i n = share wo a 0 i n + (share wo a 1 i n + (share wo a 2 i n + share wo a 3 i n)) := by
  unfold layer
  rw [Fin.sum_univ_two_halves 1024 3072 rfl, Fin.sum_univ_two_halves 1024 2048 rfl, Fin.sum_univ_two_halves 1024 1024 rfl]
  rfl

end

end Cert.Maths

end
-- ==== Proof.RefValue.lean ====
/-
# What the reference computes, over the extended reals

The reference's result at an element is the layer of `Spec` with the softmax over the keys in two halves.  Its steps are named
first, each is read at an element, and the result is put together from them.
-/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 16384

noncomputable section

namespace Cert.Ref

open Cert.ReferenceIdeal Cert.ReferenceIdeal.Gen Cert.Maths
open Idealize.ShloMosaic
open Idealize.ShloMosaic.TcCoe

/-- The arrays by their coordinates: the activations, -/
def rows (x : S1x2048x1024.Idx → EReal) (i : Fin 2048) (t : Fin 1024) : EReal := x (ix3 (0 : Fin 1) i t)
/-- a matrix, -/
def entries {a b : ℕ} (w : (⟨2, ![a, b]⟩ : Shape).Idx → EReal) (t : Fin a) (k : Fin b) : EReal := w (ix2 t k)
/-- and the keys or the values. -/
def heads (k : S1x2048x32x128.Idx → EReal) (j : Fin 2048) (h : Fin 32) (d : Fin 128) : EReal := k (ix4 (0 : Fin 1) j h d)

section
variable (X : FVec Ideal S1x2048x1024 .f32) (W : FVec Ideal S1024x4096 .f32) (K V : FVec Ideal S1x2048x32x128 .f32)
  (O : FVec Ideal S1x2048x32x128 .f32) (L M M' A : FVec Ideal S1x32x2048x1 .f32) (S P : FVec Ideal S1x32x2048x1024 .f32)
  (Vh : FVec Ideal S1x1024x32x128 .f32) (Wo : FVec Ideal S4096x1024 .f32)

/-- The queries by heads. -/
def queries : FVec Ideal S1x2048x32x128 .f32 :=
  shapeCast _ (Host.dotGeneral dot_S1x2048x1024_S1024x4096_S1x2048x4096_2_0_01_1_n_n none X W) shapeCasts_S1x2048x4096_S1x2048x32x128
/-- The first half of the keys or the values, -/
def half0 : FVec Ideal S1x1024x32x128 .f32 := extractStridedSlice S1x1024x32x128 ![0, 0, 0, 0] K slices_S1x2048x32x128_S1x1024x32x128_0_0_0_0
/-- and the second. -/
def half1 : FVec Ideal S1x1024x32x128 .f32 := extractStridedSlice S1x1024x32x128 ![0, 1024, 0, 0] K slices_S1x2048x32x128_S1x1024x32x128_0_1024_0_0
/-- The scores against a half's keys. -/
def scores (Q : FVec Ideal S1x2048x32x128 .f32) : FVec Ideal S1x32x2048x1024 .f32 :=
  mulf (Host.dotGeneral dot_S1x2048x32x128_S1x1024x32x128_S1x32x2048x1024_3_3_1_1_02_02 none Q Vh)
    (broadcastInDim S1x32x2048x1024 ![] bcast_S_S1x32x2048x1024 (constant S_ .f32 0x3DB504F3#32))
/-- A row's greatest score in a half, -/
def rowMax : FVec Ideal S1x32x2048 .f32 :=
  Host.reduce FloatOps.maximumf S (constant S_ .f32 0xFF800000#32) reducesTo_S1x32x2048x1024_S1x32x2048_d3 h_S_
/-- a row's sum, -/
def rowSum : FVec Ideal S1x32x2048 .f32 :=
  Host.reduceAdd P (constant S_ .f32 0x00000000#32) reducesTo_S1x32x2048x1024_S1x32x2048_d3 h_S_
/-- and such a statistic with a last axis of one. -/
def stat (R : FVec Ideal S1x32x2048 .f32) : FVec Ideal S1x32x2048x1 .f32 :=
  broadcastInDim S1x32x2048x1 ![0, 1, 2] bcast_S1x32x2048_S1x32x2048x1_0_1_2 R
/-- The running greatest score, -/
def peak : FVec Ideal S1x32x2048x1 .f32 :=
  maximumf M (stat (rowMax S))
/-- what it starts from, -/
def peak0 : FVec Ideal S1x32x2048x1 .f32 := broadcastInDim S1x32x2048x1 ![] bcast_S_S1x32x2048x1 (constant S_ .f32 0xFF800000#32)
/-- the factor that a step puts on what has been gathered, -/
def factor : FVec Ideal S1x32x2048x1 .f32 := Host.exp (subf M M')
/-- and the step's exponentials. -/
def weights : FVec Ideal S1x32x2048x1024 .f32 :=
  Host.exp (subf S (broadcastInDim S1x32x2048x1024 ![0, 1, 2, 3] bcast_S1x32x2048x1_S1x32x2048x1024_0_1_2_3 M))
/-- A statistic of the rows laid along the heads. -/
def spread : FVec Ideal S1x2048x32x128 .f32 :=
  broadcastInDim S1x2048x32x128 ![0, 1, 2, 3] bcast_S1x2048x32x1_S1x2048x32x128_0_1_2_3
    (transpose S1x2048x32x1 [0, 2, 1, 3] A transposes_S1x32x2048x1_S1x2048x32x1_0_2_1_3)
/-- One step's weighted values, -/
def outStep : FVec Ideal S1x2048x32x128 .f32 :=
  addf (mulf O (spread A))
    (transpose S1x2048x32x128 [0, 3, 1, 2] (Host.dotGeneral dot_S1x1024x32x128_S1x32x2048x1024_S1x32x128x2048_1_3_3_2_02_01 none Vh P)
      transposes_S1x32x128x2048_S1x2048x32x128_0_3_1_2)
/-- and its weights. -/
def sumStep : FVec Ideal S1x32x2048x1 .f32 :=
  addf (mulf L A) (stat (rowSum P))
/-- The start of the weighted values, -/
def out0 : FVec Ideal S1x2048x32x128 .f32 := broadcastInDim S1x2048x32x128 ![] bcast_S_S1x2048x32x128 (constant S_ .f32 0x00000000#32)
/-- and of the weights. -/
def sum0 : FVec Ideal S1x32x2048x1 .f32 := broadcastInDim S1x32x2048x1 ![] bcast_S_S1x32x2048x1 (constant S_ .f32 0x00000000#32)
/-- The quotient, its heads side by side, -/
def quotient : FVec Ideal S1x2048x4096 .f32 := shapeCast _ (Host.divf O (spread L)) shapeCasts_S1x2048x32x128_S1x2048x4096
/-- and the last product. -/
def lastProduct (a : FVec Ideal S1x2048x4096 .f32) : FVec Ideal S1x2048x1024 .f32 :=
  Host.dotGeneral dot_S1x2048x4096_S4096x1024_S1x2048x1024_2_0_01_1_n_n none a Wo

variable (b : Fin 2048) (h : Fin 32) (j : Fin 1024) (d : Fin 128)

theorem queries_apply : queries X W (ix4 (0 : Fin 1) b h d) = ∑ t : Fin 1024, X (ix3 (0 : Fin 1) b t) * W (ix2 t (col h d)) := by
  unfold queries
  pointwise
  simp only [col]
theorem half0_apply : half0 K (ix4 (0 : Fin 1) j h d) = K (ix4 (0 : Fin 1) (low j) h d) := by
  unfold half0
  pointwise
  rfl
theorem half1_apply : half1 K (ix4 (0 : Fin 1) j h d) = K (ix4 (0 : Fin 1) (high j) h d) := by
  unfold half1
  pointwise
  rfl
theorem scores_apply (Q : FVec Ideal S1x2048x32x128 .f32) :
    scores Vh Q (ix4 (0 : Fin 1) h b j) = (∑ d : Fin 128, Q (ix4 (0 : Fin 1) b h d) * Vh (ix4 (0 : Fin 1) j h d)) * scale := by
  unfold scores
  pointwise
  rfl
theorem rowMax_apply : rowMax S (ix3 (0 : Fin 1) h b) = Finset.univ.fold max ⊥ fun j : Fin 1024 => S (ix4 (0 : Fin 1) h b j) := by
  unfold rowMax
  pointwise
  rw [ofBits_neg_inf]
theorem rowSum_apply : rowSum P (ix3 (0 : Fin 1) h b) = ∑ j : Fin 1024, P (ix4 (0 : Fin 1) h b j) := by
  unfold rowSum
  pointwise
theorem stat_apply (R : FVec Ideal S1x32x2048 .f32) : stat R (ix4 (0 : Fin 1) h b (0 : Fin 1)) = R (ix3 (0 : Fin 1) h b) := by
  unfold stat
  pointwise
theorem peak_apply : peak M S (ix4 (0 : Fin 1) h b (0 : Fin 1))
    = max (M (ix4 (0 : Fin 1) h b (0 : Fin 1))) (Finset.univ.fold max ⊥ fun j : Fin 1024 => S (ix4 (0 : Fin 1) h b j)) := by
  unfold peak
  rw [maximumf_apply, stat_apply, rowMax_apply]
  rfl
theorem peak0_apply : peak0 (ix4 (0 : Fin 1) h b (0 : Fin 1)) = ⊥ := by
  unfold peak0
  pointwise
  exact ofBits_neg_inf
theorem factor_apply : factor M M' (ix4 (0 : Fin 1) h b (0 : Fin 1))
    = Ideal.exp (M (ix4 (0 : Fin 1) h b (0 : Fin 1)) - M' (ix4 (0 : Fin 1) h b (0 : Fin 1))) := by
  unfold factor
  pointwise
theorem weights_apply : weights M S (ix4 (0 : Fin 1) h b j) = Ideal.exp (S (ix4 (0 : Fin 1) h b j) - M (ix4 (0 : Fin 1) h b (0 : Fin 1))) := by
  unfold weights
  pointwise
theorem spread_apply : spread A (ix4 (0 : Fin 1) b h d) = A (ix4 (0 : Fin 1) h b (0 : Fin 1)) := by
  unfold spread
  pointwise
theorem outStep_apply : outStep O A P Vh (ix4 (0 : Fin 1) b h d)
    = O (ix4 (0 : Fin 1) b h d) * A (ix4 (0 : Fin 1) h b (0 : Fin 1)) + ∑ j : Fin 1024, Vh (ix4 (0 : Fin 1) j h d) * P (ix4 (0 : Fin 1) h b j) := by
  unfold outStep spread
  pointwise
theorem sumStep_apply : sumStep L A P (ix4 (0 : Fin 1) h b (0 : Fin 1))
    = L (ix4 (0 : Fin 1) h b (0 : Fin 1)) * A (ix4 (0 : Fin 1) h b (0 : Fin 1)) + ∑ j : Fin 1024, P (ix4 (0 : Fin 1) h b j) := by
  unfold sumStep
  rw [addf_apply, mulf_apply, stat_apply, rowSum_apply]
  rfl
theorem out0_apply : out0 (ix4 (0 : Fin 1) b h d) = 0 := by
  unfold out0
  pointwise
theorem sum0_apply : sum0 (ix4 (0 : Fin 1) h b (0 : Fin 1)) = 0 := by
  unfold sum0
  pointwise
theorem quotient_apply (k : Fin 4096) : quotient O L (ix3 (0 : Fin 1) b k)
    = Ideal.div (O (ix4 (0 : Fin 1) b (head k) (lane k))) (L (ix4 (0 : Fin 1) (head k) b (0 : Fin 1))) := by
  unfold quotient spread
  pointwise
  rfl
theorem lastProduct_apply (a : FVec Ideal S1x2048x4096 .f32) (n : Fin 1024) : lastProduct Wo a (ix3 (0 : Fin 1) b n)
    = ∑ k : Fin 4096, a (ix3 (0 : Fin 1) b k) * Wo (ix2 k n) := by
  unfold lastProduct
  pointwise

/-- The scores against the first half of the keys, -/
def scoresLow : FVec Ideal S1x32x2048x1024 .f32 := scores (half0 K) (queries X W)
/-- against the second, -/
def scoresHigh : FVec Ideal S1x32x2048x1024 .f32 := scores (half1 K) (queries X W)
/-- the greatest of the first half, -/
def peak1 : FVec Ideal S1x32x2048x1 .f32 := peak peak0 (scoresLow X W K)
/-- and of both. -/
def peak2 : FVec Ideal S1x32x2048x1 .f32 := peak (peak1 X W K) (scoresHigh X W K)
/-- The weighted values of both halves, -/
def out2 : FVec Ideal S1x2048x32x128 .f32 :=
  outStep (outStep out0 (factor peak0 (peak1 X W K)) (weights (peak1 X W K) (scoresLow X W K)) (half0 V))
    (factor (peak1 X W K) (peak2 X W K)) (weights (peak2 X W K) (scoresHigh X W K)) (half1 V)
/-- and their weights. -/
def sum2 : FVec Ideal S1x32x2048x1 .f32 :=
  sumStep (sumStep sum0 (factor peak0 (peak1 X W K)) (weights (peak1 X W K) (scoresLow X W K)))
    (factor (peak1 X W K) (peak2 X W K)) (weights (peak2 X W K) (scoresHigh X W K))
/-- The whole reference. -/
def whole : FVec Ideal S1x2048x1024 .f32 := lastProduct Wo (quotient (out2 X W K V) (sum2 X W K))

theorem scoresLow_apply : scoresLow X W K (ix4 (0 : Fin 1) h b j) = score (rows X) (entries W) (heads K) b h (low j) := by
  unfold scoresLow score rows entries heads
  rw [scores_apply]
  simp only [queries_apply, half0_apply]
theorem scoresHigh_apply : scoresHigh X W K (ix4 (0 : Fin 1) h b j) = score (rows X) (entries W) (heads K) b h (high j) := by
  unfold scoresHigh score rows entries heads
  rw [scores_apply]
  simp only [queries_apply, half1_apply]

/-- The reference at an element, in the arrays' coordinates. -/
theorem whole_apply (n : Fin 1024) :
    whole X W K V Wo (ix3 (0 : Fin 1) b n) = layer (entries Wo) (attendedOnline (rows X) (entries W) (heads K) (heads V)) b n := by
  unfold whole layer
  rw [lastProduct_apply]
  refine Finset.sum_congr rfl fun k _ => ?_
  rw [quotient_apply]
  unfold out2 sum2 attendedOnline online
  simp only [outStep_apply, sumStep_apply, factor_apply, weights_apply, half0_apply, half1_apply, out0_apply, sum0_apply, peak2, peak1,
    peak_apply, peak0_apply, scoresLow_apply, scoresHigh_apply]
  rfl

end

variable (m : (ℓ : Loc nD τ sig) → Buf (Elt Ideal) ℓ) (c : Dev nD)

/-- The reference's result array is that chain of steps. -/
theorem res_eq : Value.res_main_v55 m c
    = whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

/-- The reference's result at an element. -/
theorem value (i : Fin 2048) (n : Fin 1024) :
    Value.res_main_v55 m c (ix3 (0 : Fin 1) i n)
      = layer (entries (m ((c.tc : Thread nD τ).loc main_arg4)))
          (attendedOnline (rows (m ((c.tc : Thread nD τ).loc main_arg0))) (entries (m ((c.tc : Thread nD τ).loc main_arg1)))
            (heads (m ((c.tc : Thread nD τ).loc main_arg2))) (heads (m ((c.tc : Thread nD τ).loc main_arg3)))) i n :=
  (congrFun (res_eq m c) _).trans (whole_apply _ _ _ _ _ i n)

end Cert.Ref

end
-- ==== Proof.Equation.lean ====
/-
# The kernel's result is the reference's

The devices hold the whole arrays in blocks: the activations by rows, the query weights by columns, the output weights by rows,
the keys and the values whole. Then device `c`'s block of the result holds, at each element, the layer of `Spec` at the block's
row, and with finite activations, query weights and keys that is the reference's element.
-/
module

public import proofs.«01_k».proof.Proof.Shares
public import proofs.«01_k».proof.Proof.RefValue
public import Idealize.ShloMosaic.Lib.Layout

@[expose] public section

set_option maxRecDepth 16384

noncomputable section

namespace Cert.Ring

open Cert.KernelIdeal Cert.KernelIdeal.Gen Cert.Maths
open Cert.Ref (rows entries heads)
open Idealize.ShloMosaic
open Idealize.ShloMosaic.TcCoe

/-- A row of device `c`'s block in the whole array. -/
def row (c : Dev nD) (i : Fin 512) : Fin 2048 := ⟨c.val * 512 + i.val, by have := c.isLt; change c.val < 4 at this; omega⟩

/-- The four shares may be added from any device on. -/
theorem shares_from (f : Fin 4 → EReal) (c : Dev nD) :
    f c + (f (prv c) + (f (prv (prv c)) + f (prv (prv (prv c))))) = f 0 + (f 1 + (f 2 + f 3)) := by
  have hc : c = 0 ∨ c = 1 ∨ c = 2 ∨ c = 3 := by revert c; decide
  obtain rfl | rfl | rfl | rfl := hc
  · show f 0 + (f 3 + (f 2 + f 1)) = _
    rw [add_comm (f 2) (f 1), add_left_comm (f 3), add_comm (f 3)]
  · show f 1 + (f 0 + (f 3 + f 2)) = _
    rw [add_left_comm (f 1), add_comm (f 3)]
  · show f 2 + (f 1 + (f 0 + f 3)) = _
    rw [add_left_comm (f 1), add_left_comm (f 2), add_left_comm (f 2)]
  · show f 3 + (f 2 + (f 1 + f 0)) = _
    rw [add_comm (f 3), add_comm (f 1), add_left_comm (f 2), add_assoc, add_assoc, add_left_comm (f 2)]

theorem prv_four (c : Dev nD) : prv (prv (prv (prv c))) = c := by revert c; decide

section Layouts

variable (X : (⟨3, ![1, 2048, 1024]⟩ : Shape).Idx → EReal) (W : (⟨2, ![1024, 4096]⟩ : Shape).Idx → EReal) (K V : S1x2048x32x128.Idx → EReal)
  (Wo : (⟨2, ![4096, 1024]⟩ : Shape).Idx → EReal) (c : Dev nD)

/-- A block of rows at an element, -/
theorem rows_block (i : Fin 512) (t : Fin 1024) :
    Layout.block ⟨3, ![1, 512, 1024]⟩ ⟨3, ![1, 2048, 1024]⟩ 1 4 c X (by decide) (ix3 (0 : Fin 1) i t) = rows X (row c i) t :=
  congrArg X (funext fun a => Fin.ext (match a with
    | ⟨0, _⟩ => rfl
    | ⟨1, _⟩ => rfl
    | ⟨2, _⟩ => rfl))
/-- a block of columns, -/
theorem cols_block (t k : Fin 1024) :
    Layout.block ⟨2, ![1024, 1024]⟩ ⟨2, ![1024, 4096]⟩ 1 4 c W (by decide) (ix2 t k) = entries W t (mine c k) :=
  congrArg W (funext fun a => Fin.ext (match a with
    | ⟨0, _⟩ => rfl
    | ⟨1, _⟩ => rfl))
/-- and a block of a matrix's rows. -/
theorem rows2_block (k n : Fin 1024) :
    Layout.block ⟨2, ![1024, 1024]⟩ ⟨2, ![4096, 1024]⟩ 0 4 c Wo (by decide) (ix2 k n) = entries Wo (mine c k) n :=
  congrArg Wo (funext fun a => Fin.ext (match a with
    | ⟨0, _⟩ => rfl
    | ⟨1, _⟩ => rfl))

variable (m : (ℓ : Loc nD τ sig) → Buf (Elt Ideal) ℓ)

/-- The kernel's arguments lie in blocks of the whole arrays. -/
structure Laid : Prop where
  x : ∀ c : Dev nD, m ((c.tc : Thread nD τ).loc main_arg0) = Layout.block ⟨3, ![1, 512, 1024]⟩ ⟨3, ![1, 2048, 1024]⟩ 1 4 c X
  wq : ∀ c : Dev nD, m ((c.tc : Thread nD τ).loc main_arg1) = Layout.block ⟨2, ![1024, 1024]⟩ ⟨2, ![1024, 4096]⟩ 1 4 c W
  k : ∀ c : Dev nD, m ((c.tc : Thread nD τ).loc main_arg2) = K
  v : ∀ c : Dev nD, m ((c.tc : Thread nD τ).loc main_arg3) = V
  wo : ∀ c : Dev nD, m ((c.tc : Thread nD τ).loc main_arg4) = Layout.block ⟨2, ![1024, 1024]⟩ ⟨2, ![4096, 1024]⟩ 0 4 c Wo

variable {X W K V Wo m}

section
variable (H : Laid X W K V Wo m)
include H

/-- A device's activations, -/
theorem act_apply (i : Fin 512) (t : Fin 1024) : act (blocksOf m) c (ix2 i t) = rows X (row c i) t := by
  unfold act
  rw [pay1_apply, xin_apply, blocks_x]
  exact (congrFun (H.x c) _).trans (rows_block X c i t)
/-- its scaled query weights, -/
theorem wqOf_apply (t k : Fin 1024) : wqOf (blocksOf m) c (ix2 t k) = entries W t (mine c k) * scale := by
  unfold wqOf
  rw [pay2_apply, blocks_wq]
  exact congrArg (· * scale) ((congrFun (H.wq c) _).trans (cols_block W c t k))
/-- its output weights, -/
theorem woOf_apply (k n : Fin 1024) : woOf (blocksOf m) c (ix2 k n) = entries Wo (mine c k) n := by
  unfold woOf
  rw [pay3_apply, blocks_wo]
  exact (congrFun (H.wo c) _).trans (rows2_block Wo c k n)
/-- the keys of its heads, -/
theorem keys_apply (h : Fin 8) (j : Fin 2048) (e : Fin 128) (hh : 8 * c.val + h.val < 32) :
    keys (blocksOf m) c h (ix3 (0 : Fin 1) j e) = heads K j ⟨8 * c.val + h.val, hh⟩ e := by
  unfold keys
  rw [kvOf_apply, fetched_apply _ _ _ _ _ _ hh]
  exact congrFun (H.k c) _
/-- and the values. -/
theorem vals_apply (h : Fin 8) (j : Fin 2048) (e : Fin 128) (hh : 8 * c.val + h.val < 32) :
    vals (blocksOf m) c h (ix3 (0 : Fin 1) j e) = heads V j ⟨8 * c.val + h.val, hh⟩ e := by
  unfold vals
  rw [kvOf_apply, fetched_apply _ _ _ _ _ _ hh]
  exact congrFun (H.v c) _

/-- Device `d`'s attention of device `c`'s rows is the attention at those rows and at `d`'s columns. -/
theorem att_apply (d c : Dev nD) (i : Fin 512) (k : Fin 1024) :
    att (blocksOf m) d (act (blocksOf m) c) (ix2 i k) = attended (rows X) (entries W) (heads K) (heads V) (row c i) (mine d k) := by
  have hd : d.val < 4 := d.isLt
  have hh : 8 * d.val + (ownHead k).val < 32 := by show 8 * d.val + k.val / 128 < 32; omega
  have ehead : (⟨8 * d.val + (ownHead k).val, hh⟩ : Fin 32) = head (mine d k) := Fin.ext (by
    show 8 * d.val + k.val / 128 = (d.val * 1024 + k.val) / 128; omega)
  have elane : ownLane k = lane (mine d k) := Fin.ext (by
    show k.val % 128 = (d.val * 1024 + k.val) % 128; omega)
  have ecol : ∀ (e : Fin 128) (h1 : 128 * (ownHead k).val + e.val < 1024), mine d ⟨128 * (ownHead k).val + e.val, h1⟩ = col (head (mine d k)) e := fun e h1 => Fin.ext (by
    show d.val * 1024 + (128 * (k.val / 128) + e.val) = ((d.val * 1024 + k.val) / 128) * 128 + e.val; omega)
  unfold att attended
  rw [attnOf_apply]
  congr 1
  · funext j
    rw [score_eq]
    refine Finset.sum_congr rfl fun e _ => ?_
    rw [keys_apply d H _ _ _ hh, ehead]
    refine congrArg (· * heads K j (head (mine d k)) e) (Finset.sum_congr rfl fun t _ => ?_)
    rw [act_apply c H, wqOf_apply d H, ecol]
  · funext j
    rw [vals_apply d H _ _ _ hh, ehead, elane]

/-- A device's partial product is its share of the result. -/
theorem product_apply (d c : Dev nD) (i : Fin 512) (n : Fin 1024) :
    product (blocksOf m) d c i n = share (entries Wo) (attended (rows X) (entries W) (heads K) (heads V)) d (row c i) n := by
  unfold product share
  refine Finset.sum_congr rfl fun k _ => ?_
  rw [att_apply H, woOf_apply d H]

/-- Device `c`'s block of the result is the layer at the block's rows. -/
theorem result_layer (c : Dev nD) (i : Fin 512) (n : Fin 1024) :
    result (blocksOf m) c (ix2 i n) = layer (entries Wo) (attended (rows X) (entries W) (heads K) (heads V)) (row c i) n := by
  rw [result_apply, prv_four, product_apply H, product_apply H, product_apply H, product_apply H, layer_eq]
  exact shares_from (fun d => share (entries Wo) (attended (rows X) (entries W) (heads K) (heads V)) d (row c i) n) c

end

end Layouts

end Cert.Ring

end
-- ==== Proof.Finite.lean ====
/-
# What the precondition says

`finite` tests that the activations, the query weights and the keys of a device are finite: every entry of those arrays is a real.
-/
module

public import proofs.«01_k».proof.Defs
public import proofs.«01_k».proof.Proof.Equation
public import Idealize.ShloMosaic.Lib.ReduceAll

@[expose] public section

set_option maxRecDepth 16384

noncomputable section

namespace Cert.Ring

open Cert.Maths
open Cert.Ref (rows entries heads)
open Idealize.ShloMosaic
open Idealize.ShloMosaic.TcCoe

/-- The side conditions of `finite` at a device's blocks, -/
theorem finiteFacts : Cert.Pre_finite_KernelIdeal.Facts where
  bcast_S_S1x512x1024 := by decide
  reducesTo_S1x512x1024_S_d0_1_2 := by decide
  h_S_ := by decide
  bcast_S_S1024x1024 := by decide
  reducesTo_S1024x1024_S_d0_1 := by decide
  bcast_S_S1x2048x32x128 := by decide
  reducesTo_S1x2048x32x128_S_d0_1_2_3 := by decide
/-- and at the whole arrays. -/
theorem finiteFactsWhole : Cert.Pre_finite_ReferenceIdeal.Facts where
  bcast_S_S1x2048x1024 := by decide
  reducesTo_S1x2048x1024_S_d0_1_2 := by decide
  h_S_ := by decide
  bcast_S_S1024x4096 := by decide
  reducesTo_S1024x4096_S_d0_1 := by decide
  bcast_S_S1x2048x32x128 := by decide
  reducesTo_S1x2048x32x128_S_d0_1_2_3 := by decide

/-- The shape of a single truth value has one index. -/
theorem one_index : Subsingleton (⟨0, ![]⟩ : Shape).Idx := ⟨fun a b => funext fun k => k.elim0⟩

/-- An array whose absolute values are all below infinity holds reals. -/
theorem all_real {S : Shape} {axes : List (Fin S.rank)} (v : FVec Ideal S .f32)
    (hb : (⟨0, ![]⟩ : Shape).BroadcastsInDim S (![] : Fin 0 → Fin S.rank)) (hr : S.ReducesTo axes ⟨0, ![]⟩)
    (hu : 0 < (⟨0, ![]⟩ : Shape).numel) (j : (⟨0, ![]⟩ : Shape).Idx)
    (e : Host.reduce IntOp.andi (cmpf .olt (Host.absf v) (broadcastInDim S ![] hb (constant ⟨0, ![]⟩ .f32 0x7F800000#32)))
      (constantI ⟨0, ![]⟩ 1 1#1) hr hu j = 1#1) (i : S.Idx) : IsReal (v i) := by
  have := one_index
  have h : Ideal.cmp .olt (max (v i) (-(v i))) (Ideal.ofBits .f32 0x7F800000#32) = 1#1 := Host.reduce_andi_all _ _ hr hu j e i
  rw [ofBits_pos_inf] at h
  refine IsReal.of_abs ?_
  by_contra hn
  simp [Ideal.cmp, hn] at h

variable [Cert.Pre_finite_KernelIdeal.Facts]

/-- A device's three arrays hold reals. -/
theorem finite_real (a0 : FVec Ideal Cert.Pre_finite_KernelIdeal.S1x512x1024 .f32) (a1 : FVec Ideal Cert.Pre_finite_KernelIdeal.S1024x1024 .f32)
    (a2 a3 : FVec Ideal Cert.Pre_finite_KernelIdeal.S1x2048x32x128 .f32) (a4 : FVec Ideal Cert.Pre_finite_KernelIdeal.S1024x1024 .f32)
    (h : Cert.Pre_finite_KernelIdeal.fn (F := Ideal) a0 a1 a2 a3 a4 = fun _ => 1#1) :
    (∀ i, IsReal (a0 i)) ∧ (∀ i, IsReal (a1 i)) ∧ ∀ i, IsReal (a2 i) := by
  have j : (⟨0, ![]⟩ : Shape).Idx := fun k => k.elim0
  obtain ⟨h01, h2⟩ := IntOp.andi_eq_one.1 (congrFun h j)
  obtain ⟨h0, h1⟩ := IntOp.andi_eq_one.1 h01
  exact ⟨all_real a0 _ _ _ j h0, all_real a1 _ _ _ j h1, all_real a2 _ _ _ j h2⟩

section
open Cert.KernelIdeal Cert.KernelIdeal.Gen

variable {X : (⟨3, ![1, 2048, 1024]⟩ : Shape).Idx → EReal} {W : (⟨2, ![1024, 4096]⟩ : Shape).Idx → EReal} {K V : S1x2048x32x128.Idx → EReal}
  {Wo : (⟨2, ![4096, 1024]⟩ : Shape).Idx → EReal} {m : (ℓ : Loc nD τ sig) → Buf (Elt Ideal) ℓ}

/-- With every device's arrays finite, the whole activations, query weights and keys hold reals. -/
theorem whole_real (H : Laid X W K V Wo m) (P : Cert.Pre_KernelIdeal_finite_KernelIdeal m) :
    (∀ i t, IsReal (rows X i t)) ∧ (∀ t k, IsReal (entries W t k)) ∧ ∀ j h d, IsReal (heads K j h d) := by
  have hP := fun c : Dev nD => finite_real _ _ _ _ _ (P c)
  refine ⟨fun i t => ?_, fun t k => ?_, fun j h d => ?_⟩
  · have hi : i.val < 2048 := i.isLt
    have e : row (⟨i.val / 512, by show i.val / 512 < 4; omega⟩ : Dev nD) ⟨i.val % 512, by omega⟩ = i := Fin.ext (by
      show i.val / 512 * 512 + i.val % 512 = i.val; omega)
    have := (hP ⟨i.val / 512, by show i.val / 512 < 4; omega⟩).1 (ix3 (0 : Fin 1) (⟨i.val % 512, by omega⟩ : Fin 512) t)
    rw [H.x, rows_block, e] at this
    exact this
  · have hk : k.val < 4096 := k.isLt
    have e : mine (⟨k.val / 1024, by show k.val / 1024 < 4; omega⟩ : Dev nD) ⟨k.val % 1024, by omega⟩ = k := Fin.ext (by
      show k.val / 1024 * 1024 + k.val % 1024 = k.val; omega)
    have := (hP ⟨k.val / 1024, by show k.val / 1024 < 4; omega⟩).2.1 (ix2 t (⟨k.val % 1024, by omega⟩ : Fin 1024))
    rw [H.wq, cols_block, e] at this
    exact this
  · have := (hP 0).2.2 (ix4 (0 : Fin 1) j h d)
    rw [H.k] at this
    exact this

end

end Cert.Ring

end
-- ==== Proof.lean ====
/-
# The proof of the claims

The frames of the kernel and of the reference, and the equation between their results.
-/
module

public import proofs.«01_k».proof.Defs
public import proofs.«01_k».proof.Proof.Frames
public import proofs.«01_k».proof.Proof.Finite
public import proofs.«01_k».proof.Proof.Gen.ReferenceIdeal.Run
public import Idealize.ShloMosaic.Adequacy
public import Idealize.ShloMosaic.Init

@[expose] public section

noncomputable section

namespace Cert.Proof

open Cert.Maths Cert.Ring
open Cert.Ref (rows entries heads)
open Idealize.ShloMosaic Idealize.SL.Sem

section
open Cert.KernelIdeal Cert.KernelIdeal.Gen

/-- Where the kernel's arguments are the blocks of the reference's and are finite, device `c`'s block of the kernel's result is
    that block of the reference's result. -/
theorem result_block [Cert.Pre_finite_KernelIdeal.Facts] (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (b : Dev Cert.ReferenceIdeal.nD)
    (P : Cert.Pre_KernelIdeal_finite_KernelIdeal m)
    (H : Laid (m' ((b.tc : Thread Cert.ReferenceIdeal.nD Cert.ReferenceIdeal.τ).loc Cert.ReferenceIdeal.main_arg0))
      (m' ((b.tc : Thread Cert.ReferenceIdeal.nD Cert.ReferenceIdeal.τ).loc Cert.ReferenceIdeal.main_arg1))
      (m' ((b.tc : Thread Cert.ReferenceIdeal.nD Cert.ReferenceIdeal.τ).loc Cert.ReferenceIdeal.main_arg2))
      (m' ((b.tc : Thread Cert.ReferenceIdeal.nD Cert.ReferenceIdeal.τ).loc Cert.ReferenceIdeal.main_arg3))
      (m' ((b.tc : Thread Cert.ReferenceIdeal.nD Cert.ReferenceIdeal.τ).loc Cert.ReferenceIdeal.main_arg4)) m) (c : Dev nD) :
    (dats m ρ 0 c).arrAt (3 : Fin 4) cfg0.N
      = Layout.block ⟨3, ![1, 512, 1024]⟩ ⟨3, ![1, 2048, 1024]⟩ 1 4 c (Cert.ReferenceIdeal.Value.res_main_v55 m' b) := by
  obtain ⟨hx, hw, hk⟩ := whole_real H P
  have key : ∀ (i : Fin 512) (n : Fin 1024), (dats m ρ 0 c).arrAt (3 : Fin 4) cfg0.N (ix3 (0 : Fin 1) i n)
      = Layout.block ⟨3, ![1, 512, 1024]⟩ ⟨3, ![1, 2048, 1024]⟩ 1 4 c (Cert.ReferenceIdeal.Value.res_main_v55 m' b) (by decide) (ix3 (0 : Fin 1) i n) := by
    intro i n
    rw [final_out, result_layer H, rows_block]
    refine Eq.trans ?_ (Cert.Ref.value m' b (row c i) n).symm
    refine congrArg (fun a => layer _ a (row c i) n) (funext fun r => funext fun k => ?_)
    exact (attendedOnline_eq _ _ _ _ hx hw hk r k).symm
  funext i
  have e : i = ix3 (0 : Fin 1) (i 1) (i 2) := funext fun a => match a with
    | ⟨0, _⟩ => Fin.ext (by have := (i 0).isLt; change (i 0).val < 1 at this; show (i 0).val = 0; omega)
    | ⟨1, _⟩ => rfl
    | ⟨2, _⟩ => rfl
  rw [e]
  exact key (i 1) (i 2)

end

/-- The kernel's result is the reference's. -/
theorem equation [Cert.Pre_finite_KernelIdeal.Facts] : Cert.algebraic_KernelIdeal_ReferenceIdeal_pre_finite_KernelIdeal := by
  intro m g m' g' P hargs
  have H : Laid _ _ _ _ _ m := ⟨fun c => (hargs c).1, fun c => (hargs c).2.1, fun c => (hargs c).2.2.1, fun c => (hargs c).2.2.2.1, fun c => (hargs c).2.2.2.2⟩
  refine ⟨Cert.ReferenceIdeal.Value.res_main_v55 m' 0, ?_, ?_⟩
  · refine (θ_run Cert.KernelIdeal.defs _ _).mono (fun r h c => ⟨?_, args_of_final m g h.1 c⟩) (run_main m g)
    exact ((h.1 c).1 (3 : Fin 4)).trans (result_block m g m' 0 P H c)
  · exact (θ_run Cert.ReferenceIdeal.defs _ _).mono (fun r h => h 0) (Cert.ReferenceIdeal.Value.run (F := Ideal) m' g')

/-- The claims. -/
theorem claim : Cert.Claim := ⟨Cert.Kernel.Gen.facts, Cert.KernelIdeal.Gen.facts, Cert.ReferenceIdeal.Gen.facts, finiteFacts, finiteFactsWhole,
  frame_kernel, frame_kernelIdeal, fun m ρ _ => frame_kernelIdeal m ρ trivial, frame_referenceIdeal, fun m ρ _ => frame_referenceIdeal m ρ trivial,
  trivial, @equation finiteFacts⟩

end Cert.Proof

end
